-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_v6_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x6144x4352 : Shape := ⟨3, ![4, 6144, 4352]⟩
abbrev S4096x4352 : Shape := ⟨2, ![4096, 4352]⟩
abbrev S4096 : Shape := ⟨1, ![4096]⟩
abbrev S128x4352 : Shape := ⟨2, ![128, 4352]⟩
abbrev S128 : Shape := ⟨1, ![128]⟩
abbrev S64x4352 : Shape := ⟨2, ![64, 4352]⟩
abbrev S64 : Shape := ⟨1, ![64]⟩
abbrev S_ : Shape := ⟨0, ![]⟩

class Facts : Prop where
  bitsLt_bf16_f32 : FTy.bits .bf16 < FTy.bits .f32
  bcast_S_S4x6144x4352 : S_.BroadcastsInDim S4x6144x4352 (![] : Fin 0 → Fin S4x6144x4352.rank)

variable [Facts]

def fn {F : FTy → Type} [FloatOps F] (main_arg0 : FVec F S4x6144x4352 .bf16) (main_arg1 : FVec F S4096x4352 .fp8e4m3) (main_arg2 : FVec F S4096 .f32) (main_arg3 : FVec F S4096x4352 .fp8e4m3) (main_arg4 : FVec F S4096 .f32) (main_arg5 : FVec F S128x4352 .fp8e4m3) (main_arg6 : FVec F S128 .f32) (main_arg7 : FVec F S128x4352 .fp8e4m3) (main_arg8 : FVec F S128 .f32) (main_arg9 : FVec F S64x4352 .fp8e4m3) (main_arg10 : FVec F S64 .f32) : IVec S4x6144x4352 1 :=
  let main_v0 : FVec F S4x6144x4352 .f32 := (extf .f32 · bitsLt_bf16_f32) main_arg0
  let main_v1 : FVec F S4x6144x4352 .f32 := Host.absf main_v0
  let main_cst : FVec F S_ .f32 := constant S_ .f32 0x7F7F0000#32
  let main_v2 : FVec F S4x6144x4352 .f32 := broadcastInDim S4x6144x4352 ![] bcast_S_S4x6144x4352 main_cst
  let main_v3 : IVec S4x6144x4352 1 := cmpf .ole main_v1 main_v2
  main_v3
-- ==== Kernel.lean ====
abbrev S4x6144x4352 : Shape := ⟨3, ![4, 6144, 4352]⟩
abbrev S4096x4352 : Shape := ⟨2, ![4096, 4352]⟩
abbrev S4096 : Shape := ⟨1, ![4096]⟩
abbrev S128x4352 : Shape := ⟨2, ![128, 4352]⟩
abbrev S128 : Shape := ⟨1, ![128]⟩
abbrev S64x4352 : Shape := ⟨2, ![64, 4352]⟩
abbrev S64 : Shape := ⟨1, ![64]⟩
abbrev S1x4096 : Shape := ⟨2, ![1, 4096]⟩
abbrev S1x128 : Shape := ⟨2, ![1, 128]⟩
abbrev S1x64 : Shape := ⟨2, ![1, 64]⟩
abbrev S24576x4352 : Shape := ⟨2, ![24576, 4352]⟩
abbrev S24576x4096 : Shape := ⟨2, ![24576, 4096]⟩
abbrev S24576x128 : Shape := ⟨2, ![24576, 128]⟩
abbrev S24576x64 : Shape := ⟨2, ![24576, 64]⟩
abbrev S24576x1 : Shape := ⟨2, ![24576, 1]⟩
abbrev S256x4352 : Shape := ⟨2, ![256, 4352]⟩
abbrev S256x4096 : Shape := ⟨2, ![256, 4096]⟩
abbrev S256x128 : Shape := ⟨2, ![256, 128]⟩
abbrev S256x64 : Shape := ⟨2, ![256, 64]⟩
abbrev S256x1 : Shape := ⟨2, ![256, 1]⟩
abbrev S256 : Shape := ⟨1, ![256]⟩
abbrev S256x256 : Shape := ⟨2, ![256, 256]⟩
abbrev S1x256 : Shape := ⟨2, ![1, 256]⟩

abbrev nBuf : Space → Nat
  | .hbm => 24
  | .vmem => 26
  | .smem => 0
  | _ => 0

abbrev bufTy : (tb : Table) → Fin (tcTables nBuf tb) → BufTy
  | .hbm, ⟨0, _⟩ => ⟨S4x6144x4352, .bf16⟩
  | .hbm, ⟨1, _⟩ => ⟨S4096x4352, .fp8e4m3⟩
  | .hbm, ⟨2, _⟩ => ⟨S4096, .f32⟩
  | .hbm, ⟨3, _⟩ => ⟨S4096x4352, .fp8e4m3⟩
  | .hbm, ⟨4, _⟩ => ⟨S4096, .f32⟩
  | .hbm, ⟨5, _⟩ => ⟨S128x4352, .fp8e4m3⟩
  | .hbm, ⟨6, _⟩ => ⟨S128, .f32⟩
  | .hbm, ⟨7, _⟩ => ⟨S128x4352, .fp8e4m3⟩
  | .hbm, ⟨8, _⟩ => ⟨S128, .f32⟩
  | .hbm, ⟨9, _⟩ => ⟨S64x4352, .fp8e4m3⟩
  | .hbm, ⟨10, _⟩ => ⟨S64, .f32⟩
  | .hbm, ⟨11, _⟩ => ⟨S1x4096, .f32⟩
  | .hbm, ⟨12, _⟩ => ⟨S1x4096, .f32⟩
  | .hbm, ⟨13, _⟩ => ⟨S1x128, .f32⟩
  | .hbm, ⟨14, _⟩ => ⟨S1x128, .f32⟩
  | .hbm, ⟨15, _⟩ => ⟨S1x64, .f32⟩
  | .hbm, ⟨16, _⟩ => ⟨S24576x4352, .bf16⟩
  | .hbm, ⟨17, _⟩ => ⟨S24576x4096, .bf16⟩
  | .hbm, ⟨18, _⟩ => ⟨S24576x4096, .bf16⟩
  | .hbm, ⟨19, _⟩ => ⟨S24576x128, .bf16⟩
  | .hbm, ⟨20, _⟩ => ⟨S24576x128, .bf16⟩
  | .hbm, ⟨21, _⟩ => ⟨S24576x64, .bf16⟩
  | .hbm, ⟨22, _⟩ => ⟨S24576x4352, .fp8e4m3⟩
  | .hbm, ⟨23, _⟩ => ⟨S24576x1, .f32⟩
  | .local _ .vmem, ⟨0, _⟩ => ⟨S256x4352, .bf16⟩
  | .local _ .vmem, ⟨1, _⟩ => ⟨S256x4352, .bf16⟩
  | .local _ .vmem, ⟨2, _⟩ => ⟨S4096x4352, .fp8e4m3⟩
  | .local _ .vmem, ⟨3, _⟩ => ⟨S4096x4352, .fp8e4m3⟩
  | .local _ .vmem, ⟨4, _⟩ => ⟨S128x4352, .fp8e4m3⟩
  | .local _ .vmem, ⟨5, _⟩ => ⟨S128x4352, .fp8e4m3⟩
  | .local _ .vmem, ⟨6, _⟩ => ⟨S64x4352, .fp8e4m3⟩
  | .local _ .vmem, ⟨7, _⟩ => ⟨S1x4096, .f32⟩
  | .local _ .vmem, ⟨8, _⟩ => ⟨S1x4096, .f32⟩
  | .local _ .vmem, ⟨9, _⟩ => ⟨S1x128, .f32⟩
  | .local _ .vmem, ⟨10, _⟩ => ⟨S1x128, .f32⟩
  | .local _ .vmem, ⟨11, _⟩ => ⟨S1x64, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x64, .bf16⟩
  | .local _ .vmem, ⟨21, _⟩ => ⟨S256x64, .bf16⟩
  | .local _ .vmem, ⟨22, _⟩ => ⟨S256x4352, .fp8e4m3⟩
  | .local _ .vmem, ⟨23, _⟩ => ⟨S256x4352, .fp8e4m3⟩
  | .local _ .vmem, ⟨24, _⟩ => ⟨S256x1, .f32⟩
  | .local _ .vmem, ⟨25, _⟩ => ⟨S256x1, .f32⟩
  | _, _ => ⟨S4x6144x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4352 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4352 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4352 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4352 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4352 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S4x6144x4352 : Shape := ⟨3, ![4, 6144, 4352]⟩
abbrev S4096x4352 : Shape := ⟨2, ![4096, 4352]⟩
abbrev S4096 : Shape := ⟨1, ![4096]⟩
abbrev S128x4352 : Shape := ⟨2, ![128, 4352]⟩
abbrev S128 : Shape := ⟨1, ![128]⟩
abbrev S64x4352 : Shape := ⟨2, ![64, 4352]⟩
abbrev S64 : Shape := ⟨1, ![64]⟩
abbrev S24576x4352 : Shape := ⟨2, ![24576, 4352]⟩
abbrev S1x4096 : Shape := ⟨2, ![1, 4096]⟩
abbrev S1x128 : Shape := ⟨2, ![1, 128]⟩
abbrev S1x64 : Shape := ⟨2, ![1, 64]⟩
abbrev S24576x4096 : Shape := ⟨2, ![24576, 4096]⟩
abbrev S24576x128 : Shape := ⟨2, ![24576, 128]⟩
abbrev S24576x64 : Shape := ⟨2, ![24576, 64]⟩
abbrev S24576x1 : Shape := ⟨2, ![24576, 1]⟩
abbrev S24576 : Shape := ⟨1, ![24576]⟩

abbrev nBuf : Space → Nat
  | .hbm => 24
  | .vmem => 18
  | .smem => 0
  | _ => 0

abbrev bufTy : (tb : Table) → Fin (tcTables nBuf tb) → BufTy
  | .hbm, ⟨0, _⟩ => ⟨S4x6144x4352, .bf16⟩
  | .hbm, ⟨1, _⟩ => ⟨S4096x4352, .fp8e4m3⟩
  | .hbm, ⟨2, _⟩ => ⟨S4096, .f32⟩
  | .hbm, ⟨3, _⟩ => ⟨S4096x4352, .fp8e4m3⟩
  | .hbm, ⟨4, _⟩ => ⟨S4096, .f32⟩
  | .hbm, ⟨5, _⟩ => ⟨S128x4352, .fp8e4m3⟩
  | .hbm, ⟨6, _⟩ => ⟨S128, .f32⟩
  | .hbm, ⟨7, _⟩ => ⟨S128x4352, .fp8e4m3⟩
  | .hbm, ⟨8, _⟩ => ⟨S128, .f32⟩
  | .hbm, ⟨9, _⟩ => ⟨S64x4352, .fp8e4m3⟩
  | .hbm, ⟨10, _⟩ => ⟨S64, .f32⟩
  | .hbm, ⟨11, _⟩ => ⟨S24576x4352, .bf16⟩
  | .hbm, ⟨12, _⟩ => ⟨S1x4096, .f32⟩
  | .hbm, ⟨13, _⟩ => ⟨S1x4096, .f32⟩
  | .hbm, ⟨14, _⟩ => ⟨S1x128, .f32⟩
  | .hbm, ⟨15, _⟩ => ⟨S1x128, .f32⟩
  | .hbm, ⟨16, _⟩ => ⟨S1x64, .f32⟩
  | .hbm, ⟨17, _⟩ => ⟨S24576x4096, .bf16⟩
  | .hbm, ⟨18, _⟩ => ⟨S24576x4096, .bf16⟩
  | .hbm, ⟨19, _⟩ => ⟨S24576x128, .bf16⟩
  | .hbm, ⟨20, _⟩ => ⟨S24576x128, .bf16⟩
  | .hbm, ⟨21, _⟩ => ⟨S24576x64, .bf16⟩
  | .hbm, ⟨22, _⟩ => ⟨S24576x4352, .fp8e4m3⟩
  | .hbm, ⟨23, _⟩ => ⟨S24576x1, .f32⟩
  | .local _ .vmem, ⟨0, _⟩ => ⟨S24576x4352, .bf16⟩
  | .local _ .vmem, ⟨1, _⟩ => ⟨S4096x4352, .fp8e4m3⟩
  | .local _ .vmem, ⟨2, _⟩ => ⟨S4096x4352, .fp8e4m3⟩
  | .local _ .vmem, ⟨3, _⟩ => ⟨S128x4352, .fp8e4m3⟩
  | .local _ .vmem, ⟨4, _⟩ => ⟨S128x4352, .fp8e4m3⟩
  | .local _ .vmem, ⟨5, _⟩ => ⟨S64x4352, .fp8e4m3⟩
  | .local _ .vmem, ⟨6, _⟩ => ⟨S1x4096, .f32⟩
  | .local _ .vmem, ⟨7, _⟩ => ⟨S1x4096, .f32⟩
  | .local _ .vmem, ⟨8, _⟩ => ⟨S1x128, .f32⟩
  | .local _ .vmem, ⟨9, _⟩ => ⟨S1x128, .f32⟩
  | .local _ .vmem, ⟨10, _⟩ => ⟨S1x64, .f32⟩
  | .local _ .vmem, ⟨11, _⟩ => ⟨S24576x4096, .bf16⟩
  | .local _ .vmem, ⟨12, _⟩ => ⟨S24576x4096, .bf16⟩
  | .local _ .vmem, ⟨13, _⟩ => ⟨S24576x128, .bf16⟩
  | .local _ .vmem, ⟨14, _⟩ => ⟨S24576x128, .bf16⟩
  | .local _ .vmem, ⟨15, _⟩ => ⟨S24576x64, .bf16⟩
  | .local _ .vmem, ⟨16, _⟩ => ⟨S24576x4352, .fp8e4m3⟩
  | .local _ .vmem, ⟨17, _⟩ => ⟨S24576x1, .f32⟩
  | _, _ => ⟨S4x6144x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S24576x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4352 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4352 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4352 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4352 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24576x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24576x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24576x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24576x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24576x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24576x4352 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24576x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Maths.lean ====
module

public import Idealize.ShloMosaic.Lib.Pointwise

/-! # The quantiser's scale, on the extended reals

The row's greatest magnitude is `a`; `t` is `a` times the binary32 constant nearest to 1/448. The reference writes the
exponent as `⌊log t / log 2⌋ + 1` (0 where `a` is 0 or `t` is below the least normal binary32 number) and raises 2 to it.
The kernel finds the exponent field of `t` by comparing `t` with powers of two, one bit of the field at a time, and writes
the two powers of two as words. This module states both and proves that they are the same two numbers when `a` is a
bf16 number that is not an infinity. -/

@[expose] public section

noncomputable section

namespace Cert.InProj

open Idealize.ShloMosaic

/-! ## The reference's side -/

/-- The constant 1/448 rounded to binary32. -/
abbrev inv448 : EReal := Ideal.ofBits .f32 0x3B124925#32

/-- The least normal binary32 number, 2^-126. -/
abbrev leastNormal : EReal := Ideal.ofBits .f32 0x00800000#32

/-- The exponent of the scale of a row whose greatest magnitude is `a`. -/
def expOf (a : EReal) : EReal :=
  if a = 0 ∨ a * inv448 < leastNormal then 0
  else Ideal.liftRound Int.floor (Ideal.div (Ideal.log (a * inv448)) (Ideal.log (Ideal.ofBits .f32 0x40000000#32))) + 1

/-- The scale of a row whose greatest magnitude is `a`. -/
def scaleOf (a : EReal) : EReal := Ideal.exp2 (expOf a)

/-- The factor a row whose greatest magnitude is `a` is multiplied by before it is rounded. -/
def invOf (a : EReal) : EReal := Ideal.exp2 (0 - expOf a)

/-! ## The kernel's side -/

/-- One step of the search for the exponent field: the bit `b` is taken if the word `(f + b) << 23` denotes at most `t`. -/
def fieldStep (t : EReal) (f b : BitVec 32) : BitVec 32 :=
  Scalar.select (FloatOps.cmpf (F := Ideal) (φ := .f32) .oge t (FloatOps.ofBits .f32 (IntOp.shli .vector (IntOp.addi f b) 23#32)))
    (IntOp.addi f b) f

/-- The exponent field the kernel's eight steps find. -/
def fieldOf (t : EReal) : BitVec 32 :=
  fieldStep t (fieldStep t (fieldStep t (fieldStep t (fieldStep t (fieldStep t (fieldStep t (fieldStep t 0#32 128#32) 64#32)
    32#32) 16#32) 8#32) 4#32) 2#32) 1#32

/-- The kernel's exponent, an integer, from the field. -/
def kexpOf (f : BitVec 32) : BitVec 32 :=
  Scalar.select (IntOp.ori (IntOp.cmpi .eq f 0#32) (IntOp.cmpi .eq f 255#32)) 0#32 (IntOp.subi f 126#32)

/-- The number whose binary32 word has exponent `e` and no fraction. -/
def kpow2 (e : BitVec 32) : EReal :=
  FloatOps.ofBits (F := Ideal) .f32 (IntOp.shli .vector (IntOp.addi e 127#32) 23#32)

/-! ## Powers of two as words -/

/-- The word with exponent field `c`, sign and fraction 0. -/
def powWord (c : ℕ) : BitVec 32 := IntOp.shli .vector (BitVec.ofNat 32 c) 23#32

theorem powWord_toNat {c : ℕ} (hc : c < 256) : (powWord c).toNat = c * 8388608 := by
  unfold powWord
  simp [IntOp.shli, BitVec.toNat_shiftLeft, Nat.shiftLeft_eq]
  omega

/-- For a field strictly between 0 and 255 the word denotes the power of two `2 ^ (c - 127)`. -/
theorem ofBits_powWord {c : ℕ} (h1 : 1 ≤ c) (h2 : c ≤ 254) :
    Ideal.ofBits .f32 (powWord c) = (((2 : ℝ) ^ ((c : ℤ) - 127) : ℝ) : EReal) := by
  have hn := powWord_toNat (c := c) (by omega)
  have e1 : ((powWord c).extractLsb' 23 8).toNat = c := by
    simp only [BitVec.extractLsb'_toNat, hn, Nat.shiftRight_eq_div_pow]; omega
  have e2 : ((powWord c).extractLsb' 0 23).toNat = 0 := by
    simp only [BitVec.extractLsb'_toNat, hn, Nat.shiftRight_eq_div_pow]; omega
  have e3 : (powWord c).extractLsb' (8 + 23) 1 = 0#1 := by
    apply BitVec.eq_of_toNat_eq
    simp only [BitVec.extractLsb'_toNat, hn, Nat.shiftRight_eq_div_pow, BitVec.toNat_ofNat]; omega
  unfold Ideal.ofBits Ideal.ieee
  simp only [e1, e2, e3]
  rw [if_neg (by omega), if_neg (by omega)]
  rw [if_neg (by decide : ¬ ((0#1 : BitVec 1) == 1#1) = true), one_mul]
  generalize hm : 2 ^ 23 + 0 = m
  have h23 : (m : ℝ) = (2 : ℝ) ^ (23 : ℤ) := by rw [← hm]; norm_num
  have he : (c : ℤ) - (2 ^ (8 - 1) - 1) - (23 : ℕ) = (c : ℤ) - 127 - 23 := by norm_num
  rw [he, h23, ← zpow_add₀ two_ne_zero, add_sub_cancel]

theorem ofBits_powWord_255 : Ideal.ofBits .f32 (powWord 255) = ⊤ := by
  have h : powWord 255 = 0x7F800000#32 := by decide
  rw [h]
  simp [Ideal.ofBits, Ideal.ieee]

/-! ## The search -/

/-- What the search keeps: the field found so far is 0 or its word denotes at most `t`, and `b` more is too much. -/
def Found (t : EReal) (f : BitVec 32) (b : ℕ) : Prop :=
  ∃ n : ℕ, f = BitVec.ofNat 32 n ∧ n + b ≤ 256 ∧ (n = 0 ∨ Ideal.ofBits .f32 (powWord n) ≤ t)
    ∧ (n + b = 256 ∨ t < Ideal.ofBits .f32 (powWord (n + b)))

theorem Found.step {t : EReal} {f : BitVec 32} {b : ℕ} (h : Found t f (b + b)) :
    Found t (fieldStep t f (BitVec.ofNat 32 b)) b := by
  obtain ⟨n, rfl, hn, hlo, hhi⟩ := h
  have hadd : IntOp.addi (BitVec.ofNat 32 n) (BitVec.ofNat 32 b) = BitVec.ofNat 32 (n + b) :=
    (BitVec.ofNat_add n b).symm
  by_cases hc : Ideal.ofBits .f32 (powWord (n + b)) ≤ t
  · refine ⟨n + b, ?_, by omega, .inr hc, ?_⟩
    · unfold fieldStep
      rw [hadd]
      show Scalar.select (BitVec.ofBool (decide (Ideal.ofBits .f32 (powWord (n + b)) ≤ t))) _ _ = _
      rw [decide_eq_true hc]; rfl
    · rw [add_assoc]; exact hhi
  · refine ⟨n, ?_, by omega, hlo, .inr (not_le.mp hc)⟩
    unfold fieldStep
    rw [hadd]
    show Scalar.select (BitVec.ofBool (decide (Ideal.ofBits .f32 (powWord (n + b)) ≤ t))) _ _ = _
    rw [decide_eq_false hc]; rfl

theorem found_fieldOf (t : EReal) : Found t (fieldOf t) 1 :=
  have h0 : Found t 0#32 256 := ⟨0, rfl, by omega, .inl rfl, .inl rfl⟩
  (((((((h0.step (b := 128)).step (b := 64)).step (b := 32)).step (b := 16)).step (b := 8)).step (b := 4)).step (b := 2)).step (b := 1)

/-- The field of a real number in `[0, 2 ^ 126)`: 0 below the least normal number, else the `n` with
    `2 ^ (n - 127) ≤ r < 2 ^ (n - 126)`. -/
theorem fieldOf_real {r : ℝ} (hr : r < (2 : ℝ) ^ (126 : ℤ)) :
    ∃ n : ℕ, n ≤ 252 ∧ fieldOf (r : EReal) = BitVec.ofNat 32 n ∧
      ((n = 0 ∧ r < (2 : ℝ) ^ (-126 : ℤ)) ∨
        (1 ≤ n ∧ (2 : ℝ) ^ ((n : ℤ) - 127) ≤ r ∧ r < (2 : ℝ) ^ ((n : ℤ) - 126))) := by
  obtain ⟨n, hf, hn, hlo, hhi⟩ := found_fieldOf (r : EReal)
  have h252 : n ≤ 252 := by
    by_contra hc
    rcases hlo with h | h
    · omega
    · rcases Nat.lt_or_ge n 255 with h' | h'
      · rw [ofBits_powWord (by omega) (by omega), EReal.coe_le_coe_iff] at h
        have : (2 : ℝ) ^ (126 : ℤ) ≤ (2 : ℝ) ^ ((n : ℤ) - 127) := zpow_le_zpow_right₀ (by norm_num) (by omega)
        linarith
      · obtain rfl : n = 255 := by omega
        rw [ofBits_powWord_255] at h
        exact absurd h (not_le.mpr (EReal.coe_lt_top r))
  refine ⟨n, h252, hf, ?_⟩
  have hup : r < (2 : ℝ) ^ ((n : ℤ) - 126) := by
    rcases hhi with h | h
    · omega
    · rw [ofBits_powWord (by omega) (by omega), EReal.coe_lt_coe_iff] at h
      refine lt_of_lt_of_eq h (congrArg _ ?_)
      push_cast; ring
  rcases Nat.eq_zero_or_pos n with h0 | h0
  · left
    refine ⟨h0, ?_⟩
    rw [h0] at hup
    simpa using hup
  · right
    rcases hlo with h | h
    · omega
    · rw [ofBits_powWord (by omega) (by omega), EReal.coe_le_coe_iff] at h
      exact ⟨h0, h, hup⟩

/-! ## The kernel's two powers of two -/

theorem kexpOf_zero : kexpOf (BitVec.ofNat 32 0) = 0#32 := by decide

theorem kexpOf_pos {n : ℕ} (h1 : 1 ≤ n) (h2 : n ≤ 252) :
    IntOp.addi (kexpOf (BitVec.ofNat 32 n)) 127#32 = BitVec.ofNat 32 (n + 1)
      ∧ IntOp.addi (IntOp.subi 0#32 (kexpOf (BitVec.ofNat 32 n))) 127#32 = BitVec.ofNat 32 (253 - n) := by
  have : ∀ n : Fin 253, 1 ≤ n.val →
      IntOp.addi (kexpOf (BitVec.ofNat 32 n.val)) 127#32 = BitVec.ofNat 32 (n.val + 1)
        ∧ IntOp.addi (IntOp.subi 0#32 (kexpOf (BitVec.ofNat 32 n.val))) 127#32 = BitVec.ofNat 32 (253 - n.val) := by
    decide +kernel
  exact this ⟨n, by omega⟩ h1

theorem kpow2_zero : kpow2 0#32 = 1 := by
  have h : kpow2 0#32 = Ideal.ofBits .f32 (powWord 127) := rfl
  rw [h, ofBits_powWord (by omega) (by omega)]
  norm_num

theorem exp2_intCast (z : ℤ) : Ideal.exp2 (((z : ℝ)) : EReal) = (((2 : ℝ) ^ z : ℝ) : EReal) := by
  rw [Ideal.exp2_coe]
  exact congrArg _ (Real.rpow_intCast 2 z)

theorem inv448_eq : inv448 = ((9586981 / 4294967296 : ℝ) : EReal) := by
  simp [inv448, Ideal.ofBits, Ideal.ieee, -EReal.coe_mul]
  norm_num

theorem leastNormal_eq : leastNormal = (((2 : ℝ) ^ (-126 : ℤ) : ℝ) : EReal) :=
  (ofBits_powWord (c := 1) (by omega) (by omega)).trans (by norm_num)

theorem two_eq : Ideal.ofBits .f32 0x40000000#32 = ((2 : ℝ) : EReal) :=
  (ofBits_powWord (c := 128) (by omega) (by omega)).trans (by norm_num)

/-- The reference's exponent where the scaled greatest magnitude is a normal number of binade `n - 127`. -/
theorem expOf_pos {a : ℝ} {n : ℤ} (h0 : (2 : ℝ) ^ (-126 : ℤ) ≤ a * (9586981 / 4294967296))
    (h1 : (2 : ℝ) ^ (n - 127) ≤ a * (9586981 / 4294967296)) (h2 : a * (9586981 / 4294967296) < (2 : ℝ) ^ (n - 126)) :
    expOf (a : EReal) = (((n - 126 : ℤ) : ℝ) : EReal) := by
  have hpos : 0 < a * (9586981 / 4294967296) := lt_of_lt_of_le (by positivity) h1
  have ha : a ≠ 0 := by rintro rfl; simp at hpos
  unfold expOf
  rw [inv448_eq, leastNormal_eq, two_eq, ← EReal.coe_mul, if_neg]
  · rw [Ideal.log_coe, if_neg (not_le.mpr hpos), Ideal.log_coe, if_neg (by norm_num)]
    have hl2 : 0 < Real.log 2 := Real.log_pos (by norm_num)
    rw [Ideal.div_coe hl2.ne', ← EReal.coe_mul, Ideal.liftRound_coe]
    have hfloor : ⌊Real.log (a * (9586981 / 4294967296)) * (1 / Real.log 2)⌋ = n - 127 := by
      rw [Int.floor_eq_iff, mul_one_div, le_div_iff₀ hl2, div_lt_iff₀ hl2]
      have e1 := Real.log_le_log (by positivity) h1
      have e2 := Real.log_lt_log hpos h2
      rw [Real.log_zpow] at e1 e2
      refine ⟨e1, lt_of_lt_of_eq e2 ?_⟩
      push_cast; ring
    rw [hfloor]
    have : (1 : EReal) = ((1 : ℝ) : EReal) := rfl
    rw [this, ← EReal.coe_add]
    refine congrArg _ ?_
    push_cast; ring
  · rintro (h | h)
    · exact ha (by exact_mod_cast h)
    · exact absurd (EReal.coe_lt_coe_iff.mp h) (not_lt.mpr h0)

/-- The kernel's scale and factor are the reference's, for a row whose greatest magnitude is a number of bf16's range. -/
theorem scale_eq {a : ℝ} (h0 : 0 ≤ a) (h1 : a ≤ 255 * (2 : ℝ) ^ (120 : ℤ)) :
    kpow2 (kexpOf (fieldOf (max ((a : EReal) * inv448) (-((a : EReal) * inv448))))) = scaleOf (a : EReal)
      ∧ kpow2 (IntOp.subi 0#32 (kexpOf (fieldOf (max ((a : EReal) * inv448) (-((a : EReal) * inv448))))))
        = invOf (a : EReal) := by
  have hr0 : 0 ≤ a * (9586981 / 4294967296) := by positivity
  have habs : max ((a : EReal) * inv448) (-((a : EReal) * inv448)) = ((a * (9586981 / 4294967296) : ℝ) : EReal) := by
    rw [inv448_eq, ← EReal.coe_mul, ← EReal.coe_neg]
    exact max_eq_left (EReal.coe_le_coe_iff.mpr (by linarith))
  have hr1 : a * (9586981 / 4294967296) < (2 : ℝ) ^ (126 : ℤ) := by
    have : a * (9586981 / 4294967296) ≤ (255 * (2 : ℝ) ^ (120 : ℤ)) * (9586981 / 4294967296) := by
      gcongr
    refine lt_of_le_of_lt this ?_
    norm_num
  rw [habs]
  obtain ⟨n, hn, hf, h⟩ := fieldOf_real hr1
  rw [hf]
  rcases h with ⟨rfl, hlt⟩ | ⟨hn1, hlo, hhi⟩
  · have he : expOf (a : EReal) = 0 := by
      unfold expOf
      rw [if_pos]
      right
      rw [inv448_eq, leastNormal_eq, ← EReal.coe_mul, EReal.coe_lt_coe_iff]
      exact hlt
    have hz : Ideal.exp2 0 = 1 := by
      have := exp2_intCast 0
      simpa using this
    have hs : IntOp.subi 0#32 0#32 = 0#32 := by decide
    unfold scaleOf invOf
    rw [he, kexpOf_zero, kpow2_zero, hs, kpow2_zero, sub_zero, hz]
    exact ⟨rfl, rfl⟩
  · have hnorm : (2 : ℝ) ^ (-126 : ℤ) ≤ a * (9586981 / 4294967296) :=
      le_trans (zpow_le_zpow_right₀ (by norm_num) (by omega)) hlo
    have he := expOf_pos hnorm hlo hhi
    obtain ⟨k1, k2⟩ := kexpOf_pos hn1 hn
    unfold scaleOf invOf kpow2
    rw [he, k1, k2]
    constructor
    · rw [exp2_intCast]
      refine (ofBits_powWord (c := n + 1) (by omega) (by omega)).trans ?_
      refine congrArg (fun z : ℤ => (((2 : ℝ) ^ z : ℝ) : EReal)) ?_
      push_cast; ring
    · have hneg : (0 : EReal) - ((((n : ℤ) - 126 : ℤ) : ℝ) : EReal) = (((126 - (n : ℤ) : ℤ) : ℝ) : EReal) := by
        rw [← EReal.coe_zero, ← EReal.coe_sub]
        refine congrArg _ ?_
        push_cast; ring
      rw [hneg, exp2_intCast]
      refine (ofBits_powWord (c := 253 - n) (by omega) (by omega)).trans ?_
      refine congrArg (fun z : ℤ => (((2 : ℝ) ^ z : ℝ) : EReal)) ?_
      omega

end Cert.InProj

end
-- ==== Proof.Rows.lean ====
module

public import Idealize.ShloMosaic.Lib.Pointwise
public import Idealize.ShloMosaic.Lib.Pointwise.IndexVar
public import Idealize.ShloMosaic.Lib.MatmulPlain

/-! # The vector operations of both programs, read at an element

Both programs work on a block of `N` rows of tokens. Each lemma reads one operation of the block at row `r`
(and column `k`), for any `N`, so that one text serves the kernel's 256 rows and the reference's 24576. -/

@[expose] public section

set_option maxRecDepth 16384

noncomputable section

namespace Cert.InProj

open Idealize.ShloMosaic

variable {N M K : ℕ}

/-- A column vector spread over the lanes. -/
theorem spreadCol {α : Type} (v : (⟨2, ![N, 1]⟩ : Shape).Idx → α) (h : (⟨2, ![N, 1]⟩ : Shape).Broadcasts ⟨2, ![N, M]⟩)
    (r : Fin N) (k : Fin M) : broadcastTo ⟨2, ![N, M]⟩ v h (ix2 r k) = v (ix2 r 0) := by
  pointwise
  refine congrArg (fun q : Fin N => v (ix2 q 0)) ?_
  by_cases hN : N = 1
  · subst hN; exact Subsingleton.elim _ _
  · exact dif_neg hN

/-- A row vector spread over the rows. -/
theorem spreadRow {α : Type} (v : (⟨2, ![1, M]⟩ : Shape).Idx → α) (h : (⟨2, ![1, M]⟩ : Shape).Broadcasts ⟨2, ![N, M]⟩)
    (r : Fin N) (k : Fin M) : broadcastTo ⟨2, ![N, M]⟩ v h (ix2 r k) = v (ix2 0 k) := by
  pointwise
  refine congrArg (fun q : Fin M => v (ix2 0 q)) ?_
  by_cases hM : M = 1
  · subst hM; exact Subsingleton.elim _ _
  · exact dif_neg hM

/-- A shape cast to the same shape. -/
theorem castSame {α : Type} (v : (⟨2, ![N, M]⟩ : Shape).Idx → α) (h : (⟨2, ![N, M]⟩ : Shape).ShapeCasts ⟨2, ![N, M]⟩) :
    shapeCast ⟨2, ![N, M]⟩ v h = v := by
  funext j
  pointwise

/-- A vector of `N` entries as a column. -/
theorem castCol {α : Type} (v : (⟨1, ![N]⟩ : Shape).Idx → α) (h : (⟨1, ![N]⟩ : Shape).ShapeCasts ⟨2, ![N, 1]⟩) (r : Fin N) :
    shapeCast ⟨2, ![N, 1]⟩ v h (ix2 r 0) = v (ix1 r) := by
  refine shapeCast_apply _ _ _ (ix1 r) ?_
  rw [Shape.rowMajor_val_one, Shape.rowMajor_val_two]
  show r.val = r.val * 1 + 0
  omega

/-- A product with the transposed right operand, from zero: the dot product of two rows. -/
theorem mulRows {φ ψ : FTy} (prec : Option ContractPrecision) (a : FVec Ideal ⟨2, ![N, K]⟩ φ) (b : FVec Ideal ⟨2, ![M, K]⟩ ψ)
    (r : Fin N) (k : Fin M) :
    matmul (DotDims.transposedRhs N K M) prec a b (constant ⟨2, ![N, M]⟩ .f32 0x00000000#32) (ix2 r k)
      = ∑ x, a (ix2 r x) * b (ix2 k x) := by
  refine (Ideal.matmul_transposedRhs_apply _ _ _ _ _ _).trans ?_
  pointwise
  rfl

/-- The greatest entry of a row. -/
theorem maxRow (v : FVec Ideal ⟨2, ![N, M]⟩ .f32) (h : (⟨2, ![N, M]⟩ : Shape).Reduces [1] ⟨1, ![N]⟩) (h1 h2) (r : Fin N) :
    multiReduction .maximumf [1] ⟨1, ![N]⟩ v 0xFF800000#32 h h1 h2 (ix1 r)
      = Finset.univ.fold max (Ideal.ofBits .f32 0xFF800000#32) (fun k => v (ix2 r k)) := by
  pointwise

end Cert.InProj

end
-- ==== Proof.Spec.lean ====
module

public import proofs.«01_k».proof.Proof.Maths
public import proofs.«01_k».proof.Proof.Rows

/-! # What one row of tokens is turned into

A token is a row `u` of `K` numbers. Its scale is a power of two chosen from its greatest magnitude, its codes are the
row divided by the scale and clipped, and a projection is the dot product of the codes with a row of a weight, times
the scale, times the weight row's own scale. -/

@[expose] public section

set_option maxRecDepth 16384

noncomputable section

namespace Cert.InProj

open Idealize.ShloMosaic

variable {N M K : ℕ}

/-- The greatest magnitude of a row. -/
def amaxOf (u : Fin K → EReal) : EReal :=
  Finset.univ.fold max (Ideal.ofBits .f32 0xFF800000#32) fun k => max (u k) (-(u k))

/-- The code of entry `k` of a row. -/
def codeOf (u : Fin K → EReal) (k : Fin K) : EReal :=
  min (Ideal.ofBits .f32 0x43E00000#32) (max (Ideal.ofBits .f32 0xC3E00000#32) (u k * invOf (amaxOf u)))

/-- The projection of a row on the weight row `w` whose scale is `s`. -/
def projOf (u w : Fin K → EReal) (s : EReal) : EReal :=
  (∑ k, codeOf u k * w k) * scaleOf (amaxOf u) * s

/-- Row `r` of an array of tokens. -/
abbrev rowOf (U : (⟨2, ![N, K]⟩ : Shape).Idx → EReal) (r : Fin N) : Fin K → EReal := fun k => U (ix2 r k)

/-- The array of projections of all the tokens `U` on the weight `W` whose rows have the scales `s`. -/
def projArr (U : (⟨2, ![N, K]⟩ : Shape).Idx → EReal) (W : (⟨2, ![M, K]⟩ : Shape).Idx → EReal) (s : (⟨2, ![1, M]⟩ : Shape).Idx → EReal) :
    (⟨2, ![N, M]⟩ : Shape).Idx → EReal := fun j => projOf (rowOf U (j 0)) (rowOf W (j 1)) (s (ix2 0 (j 1)))

/-- The array of codes of all the tokens. -/
def codesArr (U : (⟨2, ![N, K]⟩ : Shape).Idx → EReal) : (⟨2, ![N, K]⟩ : Shape).Idx → EReal := fun j => codeOf (rowOf U (j 0)) (j 1)

/-- The column of scales of all the tokens. -/
def scaleArr (U : (⟨2, ![N, K]⟩ : Shape).Idx → EReal) : (⟨2, ![N, 1]⟩ : Shape).Idx → EReal := fun j => scaleOf (amaxOf (rowOf U (j 0)))

/-! ## The greatest magnitude is a real number when every entry is -/

theorem fold_max_eq_sup (f : Fin K → EReal) : Finset.univ.fold max ⊥ f = Finset.univ.sup f := rfl

/-- A row whose magnitudes are at most `b` has a greatest magnitude between 0 and `b`. -/
theorem amaxOf_real {b : ℝ} (hK : 0 < K) (u : Fin K → EReal) (h : ∀ k, max (u k) (-(u k)) ≤ (b : EReal)) :
    ∃ a : ℝ, 0 ≤ a ∧ a ≤ b ∧ amaxOf u = (a : EReal) := by
  have hbot : Ideal.ofBits .f32 0xFF800000#32 = ⊥ := by
    simp [Ideal.ofBits, Ideal.ieee]
  have e : amaxOf u = Finset.univ.sup fun k => max (u k) (-(u k)) := by
    unfold amaxOf; rw [hbot, fold_max_eq_sup]
  have hle : amaxOf u ≤ (b : EReal) := by
    rw [e]; exact Finset.sup_le fun k _ => h k
  have hge : 0 ≤ amaxOf u := by
    rw [e]
    refine le_trans ?_ (Finset.le_sup (f := fun k => max (u k) (-(u k))) (Finset.mem_univ (⟨0, hK⟩ : Fin K)))
    rcases le_total 0 (u ⟨0, hK⟩) with hu | hu
    · exact le_max_of_le_left hu
    · exact le_max_of_le_right (EReal.neg_nonneg.2 hu)
  have ht : amaxOf u ≠ ⊤ := ne_of_lt (lt_of_le_of_lt hle (EReal.coe_lt_top b))
  have hb : amaxOf u ≠ ⊥ := ne_of_gt (lt_of_lt_of_le (EReal.bot_lt_zero) hge)
  have hr := EReal.coe_toReal ht hb
  refine ⟨(amaxOf u).toReal, ?_, ?_, hr.symm⟩
  · rw [← EReal.coe_nonneg, hr]; exact hge
  · rw [← EReal.coe_le_coe_iff, hr]; exact hle

/-! ## The shared vector expressions, at an element -/

/-- The column of greatest magnitudes. -/
theorem amaxCol (v : FVec Ideal ⟨2, ![N, K]⟩ .f32) (h h1 h2 h3) (r : Fin N) :
    shapeCast ⟨2, ![N, 1]⟩ (multiReduction .maximumf [1] ⟨1, ![N]⟩ (absf v) 0xFF800000#32 h h1 h2) h3 (ix2 r 0)
      = amaxOf fun k => v (ix2 r k) :=
  (castCol _ h3 r).trans (maxRow _ h h1 h2 r)

theorem exp2_at {s : Shape} (v : FVec Ideal s .f32) (i : s.Idx) : exp2 v i = Ideal.exp2 (v i) := rfl

theorem zeroSub_at {s : Shape} (v : FVec Ideal s .f32) (i : s.Idx) :
    subf (broadcast s (Scalar.ofBits (F := Ideal) .f32 0x00000000#32)) v i = 0 - v i := by
  show Ideal.ofBits .f32 0x00000000#32 - v i = _
  rw [Ideal.ofBits_zero_f32]

theorem ori_eq_one (p q : Bool) : IntOp.ori (BitVec.ofBool p) (BitVec.ofBool q) = 1 ↔ (p = true ∨ q = true) := by
  revert p q; decide

/-- The exponent, by the reference's two tests. -/
theorem exponent_eq (a : EReal) :
    Scalar.select (IntOp.ori (FloatOps.cmpf (F := Ideal) (φ := .f32) .oeq a (Ideal.ofBits .f32 0x00000000#32))
        (FloatOps.cmpf (F := Ideal) (φ := .f32) .olt (a * inv448) leastNormal))
      (Ideal.ofBits .f32 0x00000000#32)
      (Ideal.liftRound Int.floor (Ideal.div (Ideal.log (a * inv448)) (Ideal.log (Ideal.ofBits .f32 0x40000000#32)))
        + Ideal.ofBits .f32 0x3F800000#32) = expOf a := by
  have h1 : FloatOps.cmpf (F := Ideal) (φ := .f32) .oeq a (0 : EReal) = BitVec.ofBool (decide (a = 0)) := rfl
  have h2 : FloatOps.cmpf (F := Ideal) (φ := .f32) .olt (a * inv448) leastNormal
    = BitVec.ofBool (decide (a * inv448 < leastNormal)) := rfl
  rw [Ideal.ofBits_zero_f32, Ideal.ofBits_one_f32, h1, h2]
  unfold expOf Scalar.select
  by_cases h : a = 0 ∨ a * inv448 < leastNormal
  · rw [if_pos h, if_pos ((ori_eq_one _ _).2 (by simpa only [decide_eq_true_eq] using h))]
  · rw [if_neg h, if_neg fun hc => h (by simpa only [decide_eq_true_eq] using (ori_eq_one _ _).1 hc)]

/-- The column of the reference's exponents. -/
theorem expCol (v : FVec Ideal ⟨2, ![N, K]⟩ .f32) (h h1 h2 h3) (r : Fin N) :
    select (ori (cmpf .oeq (shapeCast ⟨2, ![N, 1]⟩ (multiReduction .maximumf [1] ⟨1, ![N]⟩ (absf v) 0xFF800000#32 h h1 h2) h3)
          (broadcast ⟨2, ![N, 1]⟩ (Scalar.ofBits (F := Ideal) .f32 0x00000000#32)))
        (cmpf .olt (mulf (shapeCast ⟨2, ![N, 1]⟩ (multiReduction .maximumf [1] ⟨1, ![N]⟩ (absf v) 0xFF800000#32 h h1 h2) h3)
            (broadcast ⟨2, ![N, 1]⟩ (Scalar.ofBits (F := Ideal) .f32 0x3B124925#32)))
          (broadcast ⟨2, ![N, 1]⟩ (Scalar.ofBits (F := Ideal) .f32 0x00800000#32))))
      (broadcast ⟨2, ![N, 1]⟩ (Scalar.ofBits (F := Ideal) .f32 0x00000000#32))
      (addf (floor (divf (log (mulf (shapeCast ⟨2, ![N, 1]⟩ (multiReduction .maximumf [1] ⟨1, ![N]⟩ (absf v) 0xFF800000#32 h h1 h2) h3)
            (broadcast ⟨2, ![N, 1]⟩ (Scalar.ofBits (F := Ideal) .f32 0x3B124925#32))))
          (broadcast ⟨2, ![N, 1]⟩ (Scalar.log (Scalar.ofBits (F := Ideal) .f32 0x40000000#32)))))
        (broadcast ⟨2, ![N, 1]⟩ (Scalar.ofBits (F := Ideal) .f32 0x3F800000#32))) (ix2 r 0)
      = expOf (amaxOf fun k => v (ix2 r k)) := by
  rw [← exponent_eq, ← amaxCol v h h1 h2 h3 r]
  rfl

/-- The magnitude of the greatest magnitude times 1/448, which the kernel's search compares. -/
theorem magCol (v : FVec Ideal ⟨2, ![N, K]⟩ .f32) (h h1 h2 h3) (r : Fin N) :
    absf (mulf (shapeCast ⟨2, ![N, 1]⟩ (multiReduction .maximumf [1] ⟨1, ![N]⟩ (absf v) 0xFF800000#32 h h1 h2) h3)
            (broadcast ⟨2, ![N, 1]⟩ (Scalar.ofBits (F := Ideal) .f32 0x3B124925#32))) (ix2 r 0)
      = max (amaxOf (fun k => v (ix2 r k)) * inv448) (-(amaxOf (fun k => v (ix2 r k)) * inv448)) := by
  rw [← amaxCol v h h1 h2 h3 r]
  rfl

/-- A projection: the product with a transposed weight, times a column of scales, times a row of scales. -/
theorem projAt {φ ψ χ : FTy} (prec : Option ContractPrecision) (s : FVec Ideal ⟨2, ![N, 1]⟩ .f32) (codes : FVec Ideal ⟨2, ![N, K]⟩ φ)
    (w : FVec Ideal ⟨2, ![M, K]⟩ ψ) (ws : FVec Ideal ⟨2, ![1, M]⟩ .f32) (h1 h2 h3) (h4 : FTy.bits χ < FTy.bits .f32) (r : Fin N) (k : Fin M) :
    truncf χ (mulf (mulf (matmul (DotDims.transposedRhs N K M) prec codes w (constant ⟨2, ![N, M]⟩ .f32 0x00000000#32))
        (broadcastTo ⟨2, ![N, M]⟩ s h1)) (broadcastTo ⟨2, ![N, M]⟩ (shapeCast ⟨2, ![1, M]⟩ ws h2) h3)) h4 (ix2 r k)
      = (∑ x, codes (ix2 r x) * w (ix2 k x)) * s (ix2 r 0) * ws (ix2 0 k) := by
  show (matmul (DotDims.transposedRhs N K M) prec codes w (constant ⟨2, ![N, M]⟩ .f32 0x00000000#32) (ix2 r k)
    * broadcastTo ⟨2, ![N, M]⟩ s h1 (ix2 r k)) * broadcastTo ⟨2, ![N, M]⟩ (shapeCast ⟨2, ![1, M]⟩ ws h2) h3 (ix2 r k) = _
  rw [mulRows, spreadCol, spreadRow, castSame]

/-- A row divided by its scale, clipped. -/
theorem codesAt {χ : FTy} (v : FVec Ideal ⟨2, ![N, K]⟩ .f32) (i : FVec Ideal ⟨2, ![N, 1]⟩ .f32) (lo hi : EReal) (h1)
    (h4 : FTy.bits χ < FTy.bits .f32) (r : Fin N) (k : Fin K) :
    (truncf (F := Ideal) (φ := .f32) χ (minimumf (broadcast ⟨2, ![N, K]⟩ (hi : Ideal .f32)) (maximumf (broadcast ⟨2, ![N, K]⟩ (lo : Ideal .f32))
      (mulf v (broadcastTo ⟨2, ![N, K]⟩ i h1)))) h4) (ix2 r k)
      = min hi (max lo (v (ix2 r k) * i (ix2 r 0))) := by
  show min hi (max lo (v (ix2 r k) * broadcastTo ⟨2, ![N, K]⟩ i h1 (ix2 r k))) = _
  rw [spreadCol]

end Cert.InProj

end
-- ==== Proof.Host.lean ====
module

public import proofs.«01_k».proof.Proof.Gen.KernelIdeal.Value
public import proofs.«01_k».proof.Proof.Gen.ReferenceIdeal.Value
public import proofs.«01_k».proof.Proof.Spec

/-! # What the host lays out before the kernel and before the reference

Both flatten the tokens to 24576 rows and give every vector of weight scales a leading axis of one. -/

@[expose] public section

set_option maxRecDepth 16384

noncomputable section

namespace Cert.InProj.Host

open Idealize.ShloMosaic Idealize.ShloMosaic.TcCoe Idealize.SL.Sem

namespace Kernel

open Cert.KernelIdeal Cert.KernelIdeal.Gen

variable (m : (ℓ : Loc nD τ sig) → Buf (Elt Ideal) ℓ) (c : Dev nD)

theorem main_v0_eq : V m c main_v0 = shapeCast S1x4096 (m ((c : Thread nD τ).loc main_arg2) : S4096.Idx → EReal) (shapeCasts_S4096_S1x4096) := by
  show StableHlo.after hostOps0 (fun b => m (c, b)) (Proc.devRef .tc main_v0) = _
  simp only [hostOps0, StableHlo.after_cons, StableHlo.after_nil]
  repeat'
    first
    | rw [StableHlo.reshape_result]
    | rw [StableHlo.reshape_result_ne]
  all_goals first | rfl | decide

theorem main_v1_eq : V m c main_v1 = shapeCast S1x4096 (m ((c : Thread nD τ).loc main_arg4) : S4096.Idx → EReal) (shapeCasts_S4096_S1x4096) := by
  show StableHlo.after hostOps0 (fun b => m (c, b)) (Proc.devRef .tc main_v1) = _
  simp only [hostOps0, StableHlo.after_cons, StableHlo.after_nil]
  repeat'
    first
    | rw [StableHlo.reshape_result]
    | rw [StableHlo.reshape_result_ne]
  all_goals first | rfl | decide

theorem main_v2_eq : V m c main_v2 = shapeCast S1x128 (m ((c : Thread nD τ).loc main_arg6) : S128.Idx → EReal) (shapeCasts_S128_S1x128) := by
  show StableHlo.after hostOps0 (fun b => m (c, b)) (Proc.devRef .tc main_v2) = _
  simp only [hostOps0, StableHlo.after_cons, StableHlo.after_nil]
  repeat'
    first
    | rw [StableHlo.reshape_result]
    | rw [StableHlo.reshape_result_ne]
  all_goals first | rfl | decide

theorem main_v3_eq : V m c main_v3 = shapeCast S1x128 (m ((c : Thread nD τ).loc main_arg8) : S128.Idx → EReal) (shapeCasts_S128_S1x128) := by
  show StableHlo.after hostOps0 (fun b => m (c, b)) (Proc.devRef .tc main_v3) = _
  simp only [hostOps0, StableHlo.after_cons, StableHlo.after_nil]
  repeat'
    first
    | rw [StableHlo.reshape_result]
    | rw [StableHlo.reshape_result_ne]
  all_goals first | rfl | decide

theorem main_v4_eq : V m c main_v4 = shapeCast S1x64 (m ((c : Thread nD τ).loc main_arg10) : S64.Idx → EReal) (shapeCasts_S64_S1x64) := by
  show StableHlo.after hostOps0 (fun b => m (c, b)) (Proc.devRef .tc main_v4) = _
  simp only [hostOps0, StableHlo.after_cons, StableHlo.after_nil]
  repeat'
    first
    | rw [StableHlo.reshape_result]
    | rw [StableHlo.reshape_result_ne]
  all_goals first | rfl | decide

theorem main_v5_eq : V m c main_v5 = shapeCast S24576x4352 (m ((c : Thread nD τ).loc main_arg0) : S4x6144x4352.Idx → EReal) (shapeCasts_S4x6144x4352_S24576x4352) := by
  show StableHlo.after hostOps0 (fun b => m (c, b)) (Proc.devRef .tc main_v5) = _
  simp only [hostOps0, StableHlo.after_cons, StableHlo.after_nil]
  repeat'
    first
    | rw [StableHlo.reshape_result]
    | rw [StableHlo.reshape_result_ne]
  all_goals first | rfl | decide

end Kernel

namespace Reference

open Cert.ReferenceIdeal Cert.ReferenceIdeal.Gen

variable (m : (ℓ : Loc nD τ sig) → Buf (Elt Ideal) ℓ) (c : Dev nD)

theorem main_v1_eq : V m c main_v1 = shapeCast S1x4096 (m ((c : Thread nD τ).loc main_arg2) : S4096.Idx → EReal) (shapeCasts_S4096_S1x4096) := by
  show StableHlo.after hostOps0 (fun b => m (c, b)) (Proc.devRef .tc main_v1) = _
  simp only [hostOps0, StableHlo.after_cons, StableHlo.after_nil]
  repeat'
    first
    | rw [StableHlo.reshape_result]
    | rw [StableHlo.reshape_result_ne]
  all_goals first | rfl | decide

theorem main_v2_eq : V m c main_v2 = shapeCast S1x4096 (m ((c : Thread nD τ).loc main_arg4) : S4096.Idx → EReal) (shapeCasts_S4096_S1x4096) := by
  show StableHlo.after hostOps0 (fun b => m (c, b)) (Proc.devRef .tc main_v2) = _
  simp only [hostOps0, StableHlo.after_cons, StableHlo.after_nil]
  repeat'
    first
    | rw [StableHlo.reshape_result]
    | rw [StableHlo.reshape_result_ne]
  all_goals first | rfl | decide

theorem main_v3_eq : V m c main_v3 = shapeCast S1x128 (m ((c : Thread nD τ).loc main_arg6) : S128.Idx → EReal) (shapeCasts_S128_S1x128) := by
  show StableHlo.after hostOps0 (fun b => m (c, b)) (Proc.devRef .tc main_v3) = _
  simp only [hostOps0, StableHlo.after_cons, StableHlo.after_nil]
  repeat'
    first
    | rw [StableHlo.reshape_result]
    | rw [StableHlo.reshape_result_ne]
  all_goals first | rfl | decide

theorem main_v4_eq : V m c main_v4 = shapeCast S1x128 (m ((c : Thread nD τ).loc main_arg8) : S128.Idx → EReal) (shapeCasts_S128_S1x128) := by
  show StableHlo.after hostOps0 (fun b => m (c, b)) (Proc.devRef .tc main_v4) = _
  simp only [hostOps0, StableHlo.after_cons, StableHlo.after_nil]
  repeat'
    first
    | rw [StableHlo.reshape_result]
    | rw [StableHlo.reshape_result_ne]
  all_goals first | rfl | decide

theorem main_v5_eq : V m c main_v5 = shapeCast S1x64 (m ((c : Thread nD τ).loc main_arg10) : S64.Idx → EReal) (shapeCasts_S64_S1x64) := by
  show StableHlo.after hostOps0 (fun b => m (c, b)) (Proc.devRef .tc main_v5) = _
  simp only [hostOps0, StableHlo.after_cons, StableHlo.after_nil]
  repeat'
    first
    | rw [StableHlo.reshape_result]
    | rw [StableHlo.reshape_result_ne]
  all_goals first | rfl | decide

theorem main_v0_eq : V m c main_v0 = shapeCast S24576x4352 (m ((c : Thread nD τ).loc main_arg0) : S4x6144x4352.Idx → EReal) (shapeCasts_S4x6144x4352_S24576x4352) := by
  show StableHlo.after hostOps0 (fun b => m (c, b)) (Proc.devRef .tc main_v0) = _
  simp only [hostOps0, StableHlo.after_cons, StableHlo.after_nil]
  repeat'
    first
    | rw [StableHlo.reshape_result]
    | rw [StableHlo.reshape_result_ne]
  all_goals first | rfl | decide

end Reference

end Cert.InProj.Host

end
-- ==== Proof.KerBody.lean ====
module

public import proofs.«01_k».proof.Proof.Gen.KernelIdeal.Skeleton
public import proofs.«01_k».proof.Proof.Spec
public import Idealize.ShloMosaic.Lib.Pipeline.ValueKit

/-! # What the kernel's body computes from one block of 256 tokens, at an element

Stated for a block whose magnitudes are at most the greatest finite bf16 number, where the exponent found by comparisons
is the reference's. -/

@[expose] public section

set_option maxRecDepth 16384

noncomputable section

namespace Cert.InProj.KerBody

open Cert.KernelIdeal Cert.KernelIdeal.Gen Cert.InProj Idealize.ShloMosaic

/-- Row `r` of a block of tokens. -/
abbrev row (x : Vec Ideal S256x4352 .bf16) (r : Fin 256) : Fin 4352 → EReal := fun k => x (ix2 r k)

/-- The greatest finite bf16 number bounds every magnitude of the row. -/
abbrev Small (u : Fin 4352 → EReal) : Prop := ∀ k, max (u k) (-(u k)) ≤ ((255 * (2 : ℝ) ^ (120 : ℤ) : ℝ) : EReal)

/-- The exponent fields the search finds, as a column. -/
abbrev fields (x : Vec Ideal S256x4352 .bf16) : IVec S256x1 32 := k0_pay6 (k0_pay3 x) (k0_pay4 x) (k0_pay5 x)

/-- Where the field is 0 or 255. -/
abbrev edges (x : Vec Ideal S256x4352 .bf16) : IVec S256x1 1 := k0_pay7 (k0_pay3 x) (k0_pay4 x) (k0_pay5 x)

/-- The column of scales. -/
abbrev scales (x : Vec Ideal S256x4352 .bf16) : FVec Ideal S256x1 .f32 := k0_pay9 (fields x) (edges x) 126#32

/-- The block of codes. -/
abbrev codes (x : Vec Ideal S256x4352 .bf16) : FVec Ideal S256x4352 .fp8e4m3 := k0_pay10 (k0_pay2 x) (fields x) (edges x) 126#32

theorem pay2_eq (x : Vec Ideal S256x4352 .bf16) : (k0_pay2 x : FVec Ideal S256x4352 .f32) = (x : S256x4352.Idx → EReal) :=
  castSame (α := EReal) x _

/-- The magnitude the search compares: the row's greatest times 1/448. -/
theorem pay3_at (x : Vec Ideal S256x4352 .bf16) (r : Fin 256) :
    k0_pay3 x (ix2 r 0) = max (amaxOf (row x r) * inv448) (-(amaxOf (row x r) * inv448)) := by
  have e := magCol (N := 256) (K := 4352) (k0_pay2 x) reduces_S256x4352_S256 (.inl rfl) rfl shapeCasts_S256_S256x1 r
  have hrow : (fun k => k0_pay2 x (ix2 r k)) = row x r := funext fun k => congrFun (pay2_eq x) _
  rw [hrow] at e
  unfold k0_pay3
  exact e

/-- One step of the search, read at an element. -/
theorem step_at {s : Shape} (v : FVec Ideal s .f32) (f : IVec s 32) (b : BitVec 32) (i : s.Idx) :
    select (cmpf .oge v (bitcastToFloat .f32 (shli (addi f (broadcast s b)) (broadcast s 23#32)))) (addi f (broadcast s b)) f i
      = fieldStep (v i) (f i) b := rfl

theorem broadcast_at {s : Shape} {α : Type} (c : α) (i : s.Idx) : broadcast s c i = c := rfl

/-- The first three steps. -/
theorem pay4_at (x : Vec Ideal S256x4352 .bf16) (i : S256x1.Idx) :
    k0_pay4 x i = fieldStep (k0_pay3 x i) (fieldStep (k0_pay3 x i) (fieldStep (k0_pay3 x i) 0#32 128#32) 64#32) 32#32 := by
  unfold k0_pay4
  generalize k0_pay3 x = v
  rw [step_at, step_at, step_at, broadcast_at]

/-- The eight steps. -/
theorem field_at (x : Vec Ideal S256x4352 .bf16) (i : S256x1.Idx) :
    fields x i = fieldOf (k0_pay3 x i) := by
  have h4 := pay4_at x i
  unfold fields k0_pay6 k0_pay5
  unfold fieldOf
  revert h4
  generalize k0_pay4 x = f
  generalize k0_pay3 x = v
  intro h4
  rw [step_at, step_at, step_at, step_at, step_at, h4]
/-- The exponent, from the field. -/
theorem expo_at {s : Shape} (f : IVec s 32) (i : s.Idx) :
    select (ori (cmpi .eq f (broadcast s 0#32)) (cmpi .eq f (broadcast s 255#32))) (broadcast s 0#32) (subi f (broadcast s 126#32)) i
      = kexpOf (f i) := rfl

theorem exp_at (x : Vec Ideal S256x4352 .bf16) (i : S256x1.Idx) :
    k0_pay8 (fields x) (edges x) 126#32 i = kexpOf (fields x i) := by
  unfold edges fields k0_pay8 k0_pay7
  generalize k0_pay6 (k0_pay3 x) (k0_pay4 x) (k0_pay5 x) = f
  rw [expo_at]

/-- The power of two written as a word. -/
theorem word_at {s : Shape} (e : IVec s 32) (i : s.Idx) :
    (bitcastToFloat .f32 (shli (addi e (broadcast s 127#32)) (broadcast s 23#32)) : FVec Ideal s .f32) i = kpow2 (e i) := rfl

theorem negWord_at {s : Shape} (e : IVec s 32) (i : s.Idx) :
    (bitcastToFloat .f32 (shli (addi (subi (broadcast s 0#32) e) (broadcast s 127#32)) (broadcast s 23#32)) : FVec Ideal s .f32) i
      = kpow2 (IntOp.subi 0#32 (e i)) := rfl

theorem pow_at (f : IVec S256x1 32) (g : IVec S256x1 1) (c : BitVec 32) (i : S256x1.Idx) :
    (k0_pay9 f g c : FVec Ideal S256x1 .f32) i = kpow2 (k0_pay8 f g c i) := by
  unfold k0_pay9
  rw [word_at]

/-- The column of scales, at a row. -/
theorem scale_at (x : Vec Ideal S256x4352 .bf16) (r : Fin 256) (h : Small (row x r)) :
    scales x (ix2 r 0) = scaleOf (amaxOf (row x r)) := by
  obtain ⟨a, h0, h1, ha⟩ := amaxOf_real (by decide) (row x r) h
  rw [scales, pow_at, exp_at, field_at, pay3_at, ha]
  exact (scale_eq h0 h1).1

/-- The codes, at an element. -/
theorem codes_at (x : Vec Ideal S256x4352 .bf16) (r : Fin 256) (k : Fin 4352) (h : Small (row x r)) :
    codes x (ix2 r k) = codeOf (row x r) k := by
  obtain ⟨a, h0, h1, ha⟩ := amaxOf_real (by decide) (row x r) h
  unfold codes k0_pay10
  refine (codesAt (N := 256) (K := 4352) (k0_pay2 x) _ _ _ broadcasts_S256x1_S256x4352 bitsLt_fp8e4m3_f32 r k).trans ?_
  rw [negWord_at, exp_at, field_at, pay3_at, ha, (scale_eq h0 h1).2, pay2_eq, codeOf, ha]
  rfl

/-- The dot product, scaled: a projection, at an element. -/
theorem proj_of {M : ℕ} (x : Vec Ideal S256x4352 .bf16) (w : Fin M → Fin 4352 → EReal) (s : Fin M → EReal)
    (r : Fin 256) (k : Fin M) (h : Small (row x r)) :
    (∑ c, codes x (ix2 r c) * w k c) * scales x (ix2 r 0) * s k = projOf (row x r) (w k) (s k) := by
  unfold projOf
  rw [scale_at x r h]
  simp only [codes_at x r _ h]

/-- The codes read back. -/
theorem pay11_eq (v : Vec Ideal S256x4352 .fp8e4m3) : (k0_pay11 v : FVec Ideal S256x4352 .fp8e4m3) = v :=
  castSame (α := EReal) v _

/-- A payload that is a projection of the codes read back, at an element. -/
theorem pay_at {M : ℕ} (x : Vec Ideal S256x4352 .bf16) (w : (⟨2, ![M, 4352]⟩ : Shape).Idx → EReal) (ws : (⟨2, ![1, M]⟩ : Shape).Idx → EReal)
    (p : (⟨2, ![256, M]⟩ : Shape).Idx → EReal) (r : Fin 256) (k : Fin M) (h : Small (row x r))
    (hp : p (ix2 r k) = (∑ c, (k0_pay11 (codes x) : FVec Ideal S256x4352 .fp8e4m3) (ix2 r c) * w (ix2 k c)) * scales x (ix2 r 0) * ws (ix2 0 k)) :
    p (ix2 r k) = projOf (row x r) (fun c => w (ix2 k c)) (ws (ix2 0 k)) := by
  rw [hp, pay11_eq]
  exact proj_of x (fun k c => w (ix2 k c)) (fun k => ws (ix2 0 k)) r k h

/-- A piece of 256 columns of a result with 4096: the weight rows and the weight scales from `o` on. -/
theorem piece_at (x : Vec Ideal S256x4352 .bf16) (w : Vec Ideal S4096x4352 .fp8e4m3) (ws : Vec Ideal S1x4096 .f32) (o : ℕ)
    (hw : ∀ a, (![o, 0] : Fin 2 → ℕ) a + S256x4352.size a ≤ S4096x4352.size a)
    (hs : ∀ a, (![0, o] : Fin 2 → ℕ) a + S1x256.size a ≤ S1x4096.size a)
    (p : S256x256.Idx → EReal) (i : S256x256.Idx) (y : S256x4096.Idx)
    (h0 : (y 0).val = (i 0).val) (h1 : (y 1).val = o + (i 1).val) (h : Small (row x (y 0)))
    (hp : ∀ (r : Fin 256) (k : Fin 256), p (ix2 r k) = (∑ c, (k0_pay11 (codes x) : FVec Ideal S256x4352 .fp8e4m3) (ix2 r c)
      * View.ld w (Rect.unit (s := S4096x4352) ![o, 0] S256x4352.size hw) (ix2 k c)) * scales x (ix2 r 0) * View.ld ws (Rect.unit (s := S1x4096) ![0, o] S1x256.size hs) (ix2 0 k)) :
    p i = projOf (row x (y 0)) (fun c => w (ix2 (y 1) c)) (ws (ix2 0 (y 1))) := by
  have hr : y 0 = i 0 := Fin.ext h0
  have hi : i = ix2 (i 0) (i 1) := eq_ix2 i
  have e1 : ∀ c, View.ld w (Rect.unit (s := S4096x4352) ![o, 0] S256x4352.size hw) (ix2 (i 1) c) = w (ix2 (y 1) c) := fun c =>
    View.ld_unit_apply_of _ _ _ _ _ _ fun a => match a with
      | ⟨0, _⟩ => h1
      | ⟨1, _⟩ => (Nat.zero_add _).symm
  have e2 : View.ld ws (Rect.unit (s := S1x4096) ![0, o] S1x256.size hs) (ix2 0 (i 1)) = ws (ix2 0 (y 1)) :=
    View.ld_unit_apply_of _ _ _ _ _ _ fun a => match a with
      | ⟨0, _⟩ => rfl
      | ⟨1, _⟩ => h1
  rw [hr] at h ⊢
  refine (congrArg p hi).trans ((hp (i 0) (i 1)).trans ?_)
  rw [e2, pay11_eq]
  simp only [e1]
  exact proj_of x (fun _ c => w (ix2 (y 1) c)) (fun _ => ws (ix2 0 (y 1))) (i 0) (i 1) h

end Cert.InProj.KerBody

end
-- ==== Proof.KerBlock.lean ====
module

public import proofs.«01_k».proof.Proof.Gen.KernelIdeal.Value
public import proofs.«01_k».proof.Proof.KerBody

/-! # What one grid point of the kernel leaves in each output block

Grid point `t` reads 256 tokens, window 0, and the weights and scales, windows 1 to 10, and leaves the seven output
blocks, windows 11 to 17. -/

@[expose] public section

set_option maxRecDepth 16384

noncomputable section

namespace Cert.InProj.KerBlock

open Cert.KernelIdeal Cert.KernelIdeal.Gen Cert.InProj Cert.InProj.KerBody Idealize.ShloMosaic Idealize.ShloMosaic.TcCoe Idealize.SL.Sem

variable (m : (ℓ : Loc nD τ sig) → Buf (Elt Ideal) ℓ) (c : Dev nD) (t : Fin cfg0.N)

/-- The tokens point `t` reads are bounded by the greatest finite bf16 number. -/
abbrev SmallBlock : Prop := ∀ r, Small (row (iblk m c 0 t) r)

/-- The result z. -/
theorem z_block (h : SmallBlock m c t) (y : S256x4096.Idx) :
    (outsAt0 m c t).1 y = projOf (row (iblk m c 0 t) (y 0)) (fun k => iblk m c 1 t (ix2 (y 1) k)) (iblk m c 6 t (ix2 0 (y 1))) := by
  rw [Gen.outsAt0]
  frame_out
  canon_tiles i e
  all_goals
    first
    | refine piece_at (iblk m c 0 t) (iblk m c 1 t) (iblk m c 6 t) _ (by decide) (by decide) _ i y e0 e1 (h _) fun r k => ?_
    | refine piece_at (iblk m c 0 t) (iblk m c 1 t) (iblk m c 6 t) 0 (by decide) (by decide) _ i y e0 (e1.trans (Nat.zero_add _).symm) (h _)
        fun r k => ?_
  all_goals
    exact projAt (N := 256) (M := 256) (K := 4352) none (scales (iblk m c 0 t)) (k0_pay11 (codes (iblk m c 0 t))) _ _ _ _ _ bitsLt_bf16_f32 r k

/-- The result x. -/
theorem x_block (h : SmallBlock m c t) (y : S256x4096.Idx) :
    (outsAt0 m c t).2.1 y = projOf (row (iblk m c 0 t) (y 0)) (fun k => iblk m c 2 t (ix2 (y 1) k)) (iblk m c 7 t (ix2 0 (y 1))) := by
  rw [Gen.outsAt0]
  frame_out
  canon_tiles i e
  all_goals
    first
    | refine piece_at (iblk m c 0 t) (iblk m c 2 t) (iblk m c 7 t) _ (by decide) (by decide) _ i y e0 e1 (h _) fun r k => ?_
    | refine piece_at (iblk m c 0 t) (iblk m c 2 t) (iblk m c 7 t) 0 (by decide) (by decide) _ i y e0 (e1.trans (Nat.zero_add _).symm) (h _)
        fun r k => ?_
  all_goals
    exact projAt (N := 256) (M := 256) (K := 4352) none (scales (iblk m c 0 t)) (k0_pay11 (codes (iblk m c 0 t))) _ _ _ _ _ bitsLt_bf16_f32 r k

/-- The result B. -/
theorem B_block (h : SmallBlock m c t) (y : S256x128.Idx) :
    (outsAt0 m c t).2.2.1 y = projOf (row (iblk m c 0 t) (y 0)) (fun k => iblk m c 3 t (ix2 (y 1) k)) (iblk m c 8 t (ix2 0 (y 1))) := by
  rw [Gen.outsAt0]
  frame_out
  refine (congrArg _ (eq_ix2 y)).trans ?_
  refine pay_at (iblk m c 0 t) (iblk m c 3 t) (iblk m c 8 t) _ (y 0) (y 1) (h _) ?_
  exact projAt (N := 256) (M := 128) (K := 4352) none (scales (iblk m c 0 t)) (k0_pay11 (codes (iblk m c 0 t))) _ _ _ _ _ bitsLt_bf16_f32 (y 0) (y 1)

/-- The result C. -/
theorem C_block (h : SmallBlock m c t) (y : S256x128.Idx) :
    (outsAt0 m c t).2.2.2.1 y = projOf (row (iblk m c 0 t) (y 0)) (fun k => iblk m c 4 t (ix2 (y 1) k)) (iblk m c 9 t (ix2 0 (y 1))) := by
  rw [Gen.outsAt0]
  frame_out
  refine (congrArg _ (eq_ix2 y)).trans ?_
  refine pay_at (iblk m c 0 t) (iblk m c 4 t) (iblk m c 9 t) _ (y 0) (y 1) (h _) ?_
  exact projAt (N := 256) (M := 128) (K := 4352) none (scales (iblk m c 0 t)) (k0_pay11 (codes (iblk m c 0 t))) _ _ _ _ _ bitsLt_bf16_f32 (y 0) (y 1)

/-- The result dt. -/
theorem dt_block (h : SmallBlock m c t) (y : S256x64.Idx) :
    (outsAt0 m c t).2.2.2.2.1 y = projOf (row (iblk m c 0 t) (y 0)) (fun k => iblk m c 5 t (ix2 (y 1) k)) (iblk m c 10 t (ix2 0 (y 1))) := by
  rw [Gen.outsAt0]
  frame_out
  refine (congrArg _ (eq_ix2 y)).trans ?_
  refine pay_at (iblk m c 0 t) (iblk m c 5 t) (iblk m c 10 t) _ (y 0) (y 1) (h _) ?_
  exact projAt (N := 256) (M := 64) (K := 4352) none (scales (iblk m c 0 t)) (k0_pay11 (codes (iblk m c 0 t))) _ _ _ _ _ bitsLt_bf16_f32 (y 0) (y 1)

/-- The codes. -/
theorem codes_block (h : SmallBlock m c t) (y : S256x4352.Idx) :
    (outsAt0 m c t).2.2.2.2.2.1 y = codeOf (row (iblk m c 0 t) (y 0)) (y 1) := by
  rw [Gen.outsAt0]
  frame_out
  exact (congrArg _ (eq_ix2 y)).trans (codes_at (iblk m c 0 t) (y 0) (y 1) (h _))

/-- The scales. -/
theorem scale_block (h : SmallBlock m c t) (y : S256x1.Idx) :
    (outsAt0 m c t).2.2.2.2.2.2 y = scaleOf (amaxOf (row (iblk m c 0 t) (y 0))) := by
  rw [Gen.outsAt0]
  frame_out
  have e : y = ix2 (y 0) 0 := (eq_ix2 y).trans (congrArg (ix2 (y 0)) (Subsingleton.elim (α := Fin 1) _ _))
  exact (congrArg _ e).trans (scale_at (iblk m c 0 t) (y 0) (h _))

end Cert.InProj.KerBlock

end
-- ==== Proof.KerArrays.lean ====
module

public import proofs.«01_k».proof.Proof.KerBlock

/-! # What the kernel leaves in its seven result arrays

The 96 blocks of 256 tokens put together: each array is the plain function of the whole token array, of the weight and of
its scales that `Spec` states. -/

@[expose] public section

set_option maxRecDepth 16384

noncomputable section

namespace Cert.InProj.KerArrays

open Cert.KernelIdeal Cert.KernelIdeal.Gen Cert.InProj Cert.InProj.KerBody Cert.InProj.KerBlock Idealize.ShloMosaic Idealize.ShloMosaic.TcCoe Idealize.SL.Sem

variable (m : (ℓ : Loc nD τ sig) → Buf (Elt Ideal) ℓ) (c : Dev nD)

/-- Equal rows, weights and scales have equal projections. -/
theorem projOf_congr {K : ℕ} {u u' w w' : Fin K → EReal} {s s' : EReal} (hu : u = u') (hw : w = w') (hs : s = s') :
    projOf u w s = projOf u' w' s' := by
  rw [hu, hw, hs]

/-- The tokens, as the region finds them. -/
abbrev tokens : S24576x4352.Idx → EReal := V m c main_v5

/-- The block of tokens is rows `256 t` to `256 t + 255`. -/
theorem row_block (t : Fin cfg0.N) (r : Fin 256) (q : Fin 24576) (hq : q.val = t.val * 256 + r.val) :
    row (iblk m c 0 t) r = rowOf (tokens m c) q := by
  have e : ∀ t : Fin cfg0.N, win0_0.index t = ![(grid0.coords t 0).val, 0] := (by decide +kernel : ∀ t : Fin grid0.N, _)
  have e' : ∀ t : Fin cfg0.N, (grid0.coords t 0).val = t.val := (by decide +kernel : ∀ t : Fin grid0.N, _)
  funext k
  blk_simp [iblk]
  refine congrArg (V m c main_v5) ?_
  blk_ext [e, e']

/-- Every point reads the whole weight of z. -/
theorem z_weight (t : Fin cfg0.N) (q : Fin 4096) : (fun k => iblk m c 1 t (ix2 q k)) = rowOf (N := 4096) (K := 4352) (V m c main_arg1) q := by
  have e : ∀ t : Fin cfg0.N, win0_1.index t = ![0, 0] := (by decide +kernel : ∀ t : Fin grid0.N, _)
  funext k
  blk_simp [iblk]
  refine congrArg (V m c main_arg1) ?_
  blk_ext [e]

/-- Every point reads all the scales of the weight of z. -/
theorem z_scales (t : Fin cfg0.N) (q : Fin 4096) : iblk m c 6 t (ix2 0 q) = V m c main_v0 (ix2 0 q) := by
  have e : ∀ t : Fin cfg0.N, win0_6.index t = ![0, 0] := (by decide +kernel : ∀ t : Fin grid0.N, _)
  blk_simp [iblk]
  refine congrArg (V m c main_v0) ?_
  blk_ext [e]

/-- Every point reads the whole weight of x. -/
theorem x_weight (t : Fin cfg0.N) (q : Fin 4096) : (fun k => iblk m c 2 t (ix2 q k)) = rowOf (N := 4096) (K := 4352) (V m c main_arg3) q := by
  have e : ∀ t : Fin cfg0.N, win0_2.index t = ![0, 0] := (by decide +kernel : ∀ t : Fin grid0.N, _)
  funext k
  blk_simp [iblk]
  refine congrArg (V m c main_arg3) ?_
  blk_ext [e]

/-- Every point reads all the scales of the weight of x. -/
theorem x_scales (t : Fin cfg0.N) (q : Fin 4096) : iblk m c 7 t (ix2 0 q) = V m c main_v1 (ix2 0 q) := by
  have e : ∀ t : Fin cfg0.N, win0_7.index t = ![0, 0] := (by decide +kernel : ∀ t : Fin grid0.N, _)
  blk_simp [iblk]
  refine congrArg (V m c main_v1) ?_
  blk_ext [e]

/-- Every point reads the whole weight of B. -/
theorem B_weight (t : Fin cfg0.N) (q : Fin 128) : (fun k => iblk m c 3 t (ix2 q k)) = rowOf (N := 128) (K := 4352) (V m c main_arg5) q := by
  have e : ∀ t : Fin cfg0.N, win0_3.index t = ![0, 0] := (by decide +kernel : ∀ t : Fin grid0.N, _)
  funext k
  blk_simp [iblk]
  refine congrArg (V m c main_arg5) ?_
  blk_ext [e]

/-- Every point reads all the scales of the weight of B. -/
theorem B_scales (t : Fin cfg0.N) (q : Fin 128) : iblk m c 8 t (ix2 0 q) = V m c main_v2 (ix2 0 q) := by
  have e : ∀ t : Fin cfg0.N, win0_8.index t = ![0, 0] := (by decide +kernel : ∀ t : Fin grid0.N, _)
  blk_simp [iblk]
  refine congrArg (V m c main_v2) ?_
  blk_ext [e]

/-- Every point reads the whole weight of C. -/
theorem C_weight (t : Fin cfg0.N) (q : Fin 128) : (fun k => iblk m c 4 t (ix2 q k)) = rowOf (N := 128) (K := 4352) (V m c main_arg7) q := by
  have e : ∀ t : Fin cfg0.N, win0_4.index t = ![0, 0] := (by decide +kernel : ∀ t : Fin grid0.N, _)
  funext k
  blk_simp [iblk]
  refine congrArg (V m c main_arg7) ?_
  blk_ext [e]

/-- Every point reads all the scales of the weight of C. -/
theorem C_scales (t : Fin cfg0.N) (q : Fin 128) : iblk m c 9 t (ix2 0 q) = V m c main_v3 (ix2 0 q) := by
  have e : ∀ t : Fin cfg0.N, win0_9.index t = ![0, 0] := (by decide +kernel : ∀ t : Fin grid0.N, _)
  blk_simp [iblk]
  refine congrArg (V m c main_v3) ?_
  blk_ext [e]

/-- Every point reads the whole weight of dt. -/
theorem dt_weight (t : Fin cfg0.N) (q : Fin 64) : (fun k => iblk m c 5 t (ix2 q k)) = rowOf (N := 64) (K := 4352) (V m c main_arg9) q := by
  have e : ∀ t : Fin cfg0.N, win0_5.index t = ![0, 0] := (by decide +kernel : ∀ t : Fin grid0.N, _)
  funext k
  blk_simp [iblk]
  refine congrArg (V m c main_arg9) ?_
  blk_ext [e]

/-- Every point reads all the scales of the weight of dt. -/
theorem dt_scales (t : Fin cfg0.N) (q : Fin 64) : iblk m c 10 t (ix2 0 q) = V m c main_v4 (ix2 0 q) := by
  have e : ∀ t : Fin cfg0.N, win0_10.index t = ![0, 0] := (by decide +kernel : ∀ t : Fin grid0.N, _)
  blk_simp [iblk]
  refine congrArg (V m c main_v4) ?_
  blk_ext [e]

/-- Every token is bounded by the greatest finite bf16 number. -/
abbrev AllSmall : Prop := ∀ q : Fin 24576, Small (rowOf (tokens m c) q)

/-- The token row `256 t + r`. -/
def tokenOf (t : Fin cfg0.N) (r : Fin 256) : Fin 24576 := ⟨t.val * 256 + r.val, by
  have h : t.val < 96 := t.isLt
  omega⟩

theorem smallBlock (h : AllSmall m c) (t : Fin cfg0.N) : SmallBlock m c t := fun r => by
  rw [row_block m c t r (tokenOf t r) rfl]
  exact h _

/-- Point `t` writes its own rows of the array of z. -/
theorem z_point (h : AllSmall m c) (t : Fin cfg0.N) (y : S256x4096.Idx) : (outsAt0 m c t).1 y = projArr (N := 24576) (M := 4096) (K := 4352) (tokens m c) (V m c main_arg1) (V m c main_v0) (ix2 (tokenOf t (y 0)) (y 1)) := by
  exact (z_block m c t (smallBlock m c h t) y).trans
    (projOf_congr (row_block m c t (y 0) (tokenOf t (y 0)) rfl) (z_weight m c t (y 1)) (z_scales m c t (y 1)))

/-- All of the array of z. -/
theorem z_array (h : AllSmall m c) : (dats m 0 c).arrAt 11 cfg0.N = projArr (N := 24576) (M := 4096) (K := 4352) (tokens m c) (V m c main_arg1) (V m c main_v0) := by
  have e : ∀ t : Fin cfg0.N, win0_11.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 11 _ (by decide +kernel) fun t hf y => ?_
  blk_simp
  rw [after0_11]
  have hy : ((win0_11.blk t).view.emb y : S24576x4096.Idx) = ix2 (tokenOf t (y 0)) (y 1) := by
    blk_ext [e, e', tokenOf]
  exact (z_point m c h t y).trans (congrArg (projArr (N := 24576) (M := 4096) (K := 4352) (tokens m c) (V m c main_arg1) (V m c main_v0)) hy).symm

/-- Point `t` writes its own rows of the array of x. -/
theorem x_point (h : AllSmall m c) (t : Fin cfg0.N) (y : S256x4096.Idx) : (outsAt0 m c t).2.1 y = projArr (N := 24576) (M := 4096) (K := 4352) (tokens m c) (V m c main_arg3) (V m c main_v1) (ix2 (tokenOf t (y 0)) (y 1)) := by
  exact (x_block m c t (smallBlock m c h t) y).trans
    (projOf_congr (row_block m c t (y 0) (tokenOf t (y 0)) rfl) (x_weight m c t (y 1)) (x_scales m c t (y 1)))

/-- All of the array of x. -/
theorem x_array (h : AllSmall m c) : (dats m 0 c).arrAt 12 cfg0.N = projArr (N := 24576) (M := 4096) (K := 4352) (tokens m c) (V m c main_arg3) (V m c main_v1) := by
  have e : ∀ t : Fin cfg0.N, win0_12.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 12 _ (by decide +kernel) fun t hf y => ?_
  blk_simp
  rw [after0_12]
  have hy : ((win0_12.blk t).view.emb y : S24576x4096.Idx) = ix2 (tokenOf t (y 0)) (y 1) := by
    blk_ext [e, e', tokenOf]
  exact (x_point m c h t y).trans (congrArg (projArr (N := 24576) (M := 4096) (K := 4352) (tokens m c) (V m c main_arg3) (V m c main_v1)) hy).symm

/-- Point `t` writes its own rows of the array of B. -/
theorem B_point (h : AllSmall m c) (t : Fin cfg0.N) (y : S256x128.Idx) : (outsAt0 m c t).2.2.1 y = projArr (N := 24576) (M := 128) (K := 4352) (tokens m c) (V m c main_arg5) (V m c main_v2) (ix2 (tokenOf t (y 0)) (y 1)) := by
  exact (B_block m c t (smallBlock m c h t) y).trans
    (projOf_congr (row_block m c t (y 0) (tokenOf t (y 0)) rfl) (B_weight m c t (y 1)) (B_scales m c t (y 1)))

/-- All of the array of B. -/
theorem B_array (h : AllSmall m c) : (dats m 0 c).arrAt 13 cfg0.N = projArr (N := 24576) (M := 128) (K := 4352) (tokens m c) (V m c main_arg5) (V m c main_v2) := by
  have e : ∀ t : Fin cfg0.N, win0_13.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 13 _ (by decide +kernel) fun t hf y => ?_
  blk_simp
  rw [after0_13]
  have hy : ((win0_13.blk t).view.emb y : S24576x128.Idx) = ix2 (tokenOf t (y 0)) (y 1) := by
    blk_ext [e, e', tokenOf]
  exact (B_point m c h t y).trans (congrArg (projArr (N := 24576) (M := 128) (K := 4352) (tokens m c) (V m c main_arg5) (V m c main_v2)) hy).symm

/-- Point `t` writes its own rows of the array of C. -/
theorem C_point (h : AllSmall m c) (t : Fin cfg0.N) (y : S256x128.Idx) : (outsAt0 m c t).2.2.2.1 y = projArr (N := 24576) (M := 128) (K := 4352) (tokens m c) (V m c main_arg7) (V m c main_v3) (ix2 (tokenOf t (y 0)) (y 1)) := by
  exact (C_block m c t (smallBlock m c h t) y).trans
    (projOf_congr (row_block m c t (y 0) (tokenOf t (y 0)) rfl) (C_weight m c t (y 1)) (C_scales m c t (y 1)))

/-- All of the array of C. -/
theorem C_array (h : AllSmall m c) : (dats m 0 c).arrAt 14 cfg0.N = projArr (N := 24576) (M := 128) (K := 4352) (tokens m c) (V m c main_arg7) (V m c main_v3) := by
  have e : ∀ t : Fin cfg0.N, win0_14.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 14 _ (by decide +kernel) fun t hf y => ?_
  blk_simp
  rw [after0_14]
  have hy : ((win0_14.blk t).view.emb y : S24576x128.Idx) = ix2 (tokenOf t (y 0)) (y 1) := by
    blk_ext [e, e', tokenOf]
  exact (C_point m c h t y).trans (congrArg (projArr (N := 24576) (M := 128) (K := 4352) (tokens m c) (V m c main_arg7) (V m c main_v3)) hy).symm

/-- Point `t` writes its own rows of the array of dt. -/
theorem dt_point (h : AllSmall m c) (t : Fin cfg0.N) (y : S256x64.Idx) : (outsAt0 m c t).2.2.2.2.1 y = projArr (N := 24576) (M := 64) (K := 4352) (tokens m c) (V m c main_arg9) (V m c main_v4) (ix2 (tokenOf t (y 0)) (y 1)) := by
  exact (dt_block m c t (smallBlock m c h t) y).trans
    (projOf_congr (row_block m c t (y 0) (tokenOf t (y 0)) rfl) (dt_weight m c t (y 1)) (dt_scales m c t (y 1)))

/-- All of the array of dt. -/
theorem dt_array (h : AllSmall m c) : (dats m 0 c).arrAt 15 cfg0.N = projArr (N := 24576) (M := 64) (K := 4352) (tokens m c) (V m c main_arg9) (V m c main_v4) := by
  have e : ∀ t : Fin cfg0.N, win0_15.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 15 _ (by decide +kernel) fun t hf y => ?_
  blk_simp
  rw [after0_15]
  have hy : ((win0_15.blk t).view.emb y : S24576x64.Idx) = ix2 (tokenOf t (y 0)) (y 1) := by
    blk_ext [e, e', tokenOf]
  exact (dt_point m c h t y).trans (congrArg (projArr (N := 24576) (M := 64) (K := 4352) (tokens m c) (V m c main_arg9) (V m c main_v4)) hy).symm

/-- Point `t` writes its own rows of the array of codes. -/
theorem codes_point (h : AllSmall m c) (t : Fin cfg0.N) (y : S256x4352.Idx) : (outsAt0 m c t).2.2.2.2.2.1 y = codesArr (N := 24576) (K := 4352) (tokens m c) (ix2 (tokenOf t (y 0)) (y 1)) := by
  exact (codes_block m c t (smallBlock m c h t) y).trans
    (congrArg (fun u => codeOf u (y 1)) (row_block m c t (y 0) (tokenOf t (y 0)) rfl))

/-- All of the array of codes. -/
theorem codes_array (h : AllSmall m c) : (dats m 0 c).arrAt 16 cfg0.N = codesArr (N := 24576) (K := 4352) (tokens m c) := by
  have e : ∀ t : Fin cfg0.N, win0_16.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 16 _ (by decide +kernel) fun t hf y => ?_
  blk_simp
  rw [after0_16]
  have hy : ((win0_16.blk t).view.emb y : S24576x4352.Idx) = ix2 (tokenOf t (y 0)) (y 1) := by
    blk_ext [e, e', tokenOf]
  exact (codes_point m c h t y).trans (congrArg (codesArr (N := 24576) (K := 4352) (tokens m c)) hy).symm

/-- Point `t` writes its own rows of the column of scales. -/
theorem scale_point (h : AllSmall m c) (t : Fin cfg0.N) (y : S256x1.Idx) : (outsAt0 m c t).2.2.2.2.2.2 y = scaleArr (N := 24576) (K := 4352) (tokens m c) (ix2 (tokenOf t (y 0)) (y 1)) := by
  exact (scale_block m c t (smallBlock m c h t) y).trans
    (congrArg (fun u => scaleOf (amaxOf u)) (row_block m c t (y 0) (tokenOf t (y 0)) rfl))

/-- All of the column of scales. -/
theorem scale_array (h : AllSmall m c) : (dats m 0 c).arrAt 17 cfg0.N = scaleArr (N := 24576) (K := 4352) (tokens m c) := by
  have e : ∀ t : Fin cfg0.N, win0_17.index t = ![(grid0.coords t 0).val, 0] := (by decide +kernel : ∀ t : Fin grid0.N, _)
  have e' : ∀ t : Fin cfg0.N, (grid0.coords t 0).val = t.val := (by decide +kernel : ∀ t : Fin grid0.N, _)
  refine (dats m 0 c).arrAt_eq_of_covers 17 _ (by decide +kernel) fun t hf y => ?_
  blk_simp
  rw [after0_17]
  have hy : ((win0_17.blk t).view.emb y : S24576x1.Idx) = ix2 (tokenOf t (y 0)) (y 1) := by
    blk_ext [e, e', tokenOf]
  exact (scale_point m c h t y).trans (congrArg (scaleArr (N := 24576) (K := 4352) (tokens m c)) hy).symm

end Cert.InProj.KerArrays
-- ==== Proof.RefBody.lean ====
module

public import proofs.«01_k».proof.Proof.Gen.ReferenceIdeal.Skeleton
public import proofs.«01_k».proof.Proof.Spec

/-! # What the reference's body computes, at an element -/

@[expose] public section

set_option maxRecDepth 16384

noncomputable section

namespace Cert.InProj.RefBody

open Cert.ReferenceIdeal Cert.ReferenceIdeal.Gen Cert.InProj Idealize.ShloMosaic

/-- Row `r` of the reference's tokens. -/
abbrev row (x : Vec Ideal S24576x4352 .bf16) (r : Fin 24576) : Fin 4352 → EReal := fun k => x (ix2 r k)

theorem pay2_eq (x : Vec Ideal S24576x4352 .bf16) : (k0_pay2 x : FVec Ideal S24576x4352 .f32) = (x : S24576x4352.Idx → EReal) :=
  castSame (α := EReal) x _

/-- The column of exponents. -/
theorem pay3_at (x : Vec Ideal S24576x4352 .bf16) (r : Fin 24576) : k0_pay3 x (ix2 r 0) = expOf (amaxOf (row x r)) := by
  have e := expCol (N := 24576) (K := 4352) (k0_pay2 x) reduces_S24576x4352_S24576 (.inl rfl) rfl shapeCasts_S24576_S24576x1 r
  have hrow : (fun k => k0_pay2 x (ix2 r k)) = row x r := funext fun k => congrFun (pay2_eq x) _
  rw [hrow] at e
  unfold k0_pay3
  exact e

/-- The column of scales. -/
theorem scale_at (x : Vec Ideal S24576x4352 .bf16) (r : Fin 24576) : k0_pay4 x (ix2 r 0) = scaleOf (amaxOf (row x r)) := by
  unfold k0_pay4
  rw [exp2_at, pay3_at, scaleOf]

/-- The codes. -/
theorem codes_at (x : Vec Ideal S24576x4352 .bf16) (r : Fin 24576) (k : Fin 4352) :
    k0_pay5 x (ix2 r k) = codeOf (row x r) k := by
  unfold k0_pay5
  refine (codesAt (N := 24576) (K := 4352) (k0_pay2 x) _ _ _ broadcasts_S24576x1_S24576x4352 bitsLt_fp8e4m3_f32 r k).trans ?_
  rw [exp2_at, zeroSub_at, pay3_at, pay2_eq, codeOf, invOf]
  rfl

/-- A projection of the reference, from its codes and scales. -/
theorem proj_of {M : ℕ} (x : Vec Ideal S24576x4352 .bf16) (w : (⟨2, ![M, 4352]⟩ : Shape).Idx → EReal) (ws : (⟨2, ![1, M]⟩ : Shape).Idx → EReal)
    (r : Fin 24576) (k : Fin M) :
    (∑ c, k0_pay5 x (ix2 r c) * w (ix2 k c)) * k0_pay4 x (ix2 r 0) * ws (ix2 0 k)
      = projOf (row x r) (fun c => w (ix2 k c)) (ws (ix2 0 k)) := by
  unfold projOf
  rw [scale_at]
  simp only [codes_at]

theorem z_at (x : Vec Ideal S24576x4352 .bf16) (w : Vec Ideal S4096x4352 .fp8e4m3) (ws : Vec Ideal S1x4096 .f32) (r : Fin 24576) (k : Fin 4096) :
    k0_pay6 x w ws (ix2 r k) = projOf (row x r) (fun c => w (ix2 k c)) (ws (ix2 0 k)) :=
  (projAt (N := 24576) (M := 4096) (K := 4352) none (k0_pay4 x) (k0_pay5 x) w ws _ _ _ bitsLt_bf16_f32 r k).trans (proj_of x w ws r k)

theorem x_at (x : Vec Ideal S24576x4352 .bf16) (w : Vec Ideal S4096x4352 .fp8e4m3) (ws : Vec Ideal S1x4096 .f32) (r : Fin 24576) (k : Fin 4096) :
    k0_pay7 (k0_pay4 x) (k0_pay5 x) w ws (ix2 r k) = projOf (row x r) (fun c => w (ix2 k c)) (ws (ix2 0 k)) :=
  (projAt (N := 24576) (M := 4096) (K := 4352) none (k0_pay4 x) (k0_pay5 x) w ws _ _ _ bitsLt_bf16_f32 r k).trans (proj_of x w ws r k)

theorem B_at (x : Vec Ideal S24576x4352 .bf16) (w : Vec Ideal S128x4352 .fp8e4m3) (ws : Vec Ideal S1x128 .f32) (r : Fin 24576) (k : Fin 128) :
    k0_pay8 (k0_pay4 x) (k0_pay5 x) w ws (ix2 r k) = projOf (row x r) (fun c => w (ix2 k c)) (ws (ix2 0 k)) :=
  (projAt (N := 24576) (M := 128) (K := 4352) none (k0_pay4 x) (k0_pay5 x) w ws _ _ _ bitsLt_bf16_f32 r k).trans (proj_of x w ws r k)

theorem C_at (x : Vec Ideal S24576x4352 .bf16) (w : Vec Ideal S128x4352 .fp8e4m3) (ws : Vec Ideal S1x128 .f32) (r : Fin 24576) (k : Fin 128) :
    k0_pay9 (k0_pay4 x) (k0_pay5 x) w ws (ix2 r k) = projOf (row x r) (fun c => w (ix2 k c)) (ws (ix2 0 k)) :=
  (projAt (N := 24576) (M := 128) (K := 4352) none (k0_pay4 x) (k0_pay5 x) w ws _ _ _ bitsLt_bf16_f32 r k).trans (proj_of x w ws r k)

theorem dt_at (x : Vec Ideal S24576x4352 .bf16) (w : Vec Ideal S64x4352 .fp8e4m3) (ws : Vec Ideal S1x64 .f32) (r : Fin 24576) (k : Fin 64) :
    k0_pay1 (k0_pay4 x) (k0_pay5 x) w ws (ix2 r k) = projOf (row x r) (fun c => w (ix2 k c)) (ws (ix2 0 k)) :=
  (projAt (N := 24576) (M := 64) (K := 4352) none (k0_pay4 x) (k0_pay5 x) w ws _ _ _ bitsLt_bf16_f32 r k).trans (proj_of x w ws r k)

end Cert.InProj.RefBody

end
-- ==== Proof.RefArrays.lean ====
module

public import proofs.«01_k».proof.Proof.Gen.ReferenceIdeal.Value
public import proofs.«01_k».proof.Proof.RefBody
public import proofs.«01_k».proof.Proof.Spec
public import Idealize.ShloMosaic.Lib.Pipeline.ValueKit

/-! # What the reference leaves in its seven result arrays

The reference has no grid: its one point reads every argument whole and writes every result whole. Each array is the plain
function of the tokens, of the weight and of its scales that `Spec` states. -/

@[expose] public section

set_option maxRecDepth 16384

noncomputable section

namespace Cert.InProj.RefArrays

open Cert.ReferenceIdeal Cert.ReferenceIdeal.Gen Cert.InProj Cert.InProj.RefBody Idealize.ShloMosaic Idealize.ShloMosaic.TcCoe Idealize.SL.Sem

section Body

variable (x0 : Vec Ideal S24576x4352 .bf16) (x1 : Vec Ideal S4096x4352 .fp8e4m3) (x2 : Vec Ideal S4096x4352 .fp8e4m3)
  (x3 : Vec Ideal S128x4352 .fp8e4m3) (x4 : Vec Ideal S128x4352 .fp8e4m3) (x5 : Vec Ideal S64x4352 .fp8e4m3)
  (x6 : Vec Ideal S1x4096 .f32) (x7 : Vec Ideal S1x4096 .f32) (x8 : Vec Ideal S1x128 .f32) (x9 : Vec Ideal S1x128 .f32)
  (x10 : Vec Ideal S1x64 .f32)

/-- The scales the body keeps. -/
theorem scales_eq : k0_pay10 x0 x1 x2 x3 x4 x5 x6 x7 x8 x9 x10 = k0_pay4 x0 := by
  unfold k0_pay10
  rw [View.ld_unit_lit _ _ (by decide)]

/-- The codes the body keeps. -/
theorem codes_eq : k0_pay11 x0 x1 x2 x3 x4 x5 x6 x7 x8 x9 x10 = k0_pay5 x0 := by
  unfold k0_pay11
  rw [View.ld_unit_lit _ _ (by decide)]

/-- The block of z. -/
theorem z_point (y : S24576x4096.Idx) : out0_11 x0 x1 x2 x3 x4 x5 x6 x7 x8 x9 x10 y = projArr (N := 24576) (M := 4096) (K := 4352) x0 x1 x6 y := by
  unfold out0_11
  rw [View.canon_cons_unit_lit _ _ _ (by decide), View.ld_unit_lit _ x1 (by decide), View.ld_unit_lit _ x6 (by decide), View.ld_unit_lit _ x0 (by decide)]
  exact (congrArg (k0_pay6 x0 x1 x6) (eq_ix2 y)).trans (z_at x0 x1 x6 (y 0) (y 1))

/-- The block of x. -/
theorem x_point (y : S24576x4096.Idx) : out0_12 x0 x1 x2 x3 x4 x5 x6 x7 x8 x9 x10 y = projArr (N := 24576) (M := 4096) (K := 4352) x0 x2 x7 y := by
  unfold out0_12
  rw [View.canon_cons_unit_lit _ _ _ (by decide), View.ld_unit_lit _ x2 (by decide), View.ld_unit_lit _ x7 (by decide), scales_eq, codes_eq]
  exact (congrArg (k0_pay7 (k0_pay4 x0) (k0_pay5 x0) x2 x7) (eq_ix2 y)).trans (x_at x0 x2 x7 (y 0) (y 1))

/-- The block of B. -/
theorem B_point (y : S24576x128.Idx) : out0_13 x0 x1 x2 x3 x4 x5 x6 x7 x8 x9 x10 y = projArr (N := 24576) (M := 128) (K := 4352) x0 x3 x8 y := by
  unfold out0_13
  rw [View.canon_cons_unit_lit _ _ _ (by decide), View.ld_unit_lit _ x3 (by decide), View.ld_unit_lit _ x8 (by decide), scales_eq, codes_eq]
  exact (congrArg (k0_pay8 (k0_pay4 x0) (k0_pay5 x0) x3 x8) (eq_ix2 y)).trans (B_at x0 x3 x8 (y 0) (y 1))

/-- The block of C. -/
theorem C_point (y : S24576x128.Idx) : out0_14 x0 x1 x2 x3 x4 x5 x6 x7 x8 x9 x10 y = projArr (N := 24576) (M := 128) (K := 4352) x0 x4 x9 y := by
  unfold out0_14
  rw [View.canon_cons_unit_lit _ _ _ (by decide), View.ld_unit_lit _ x4 (by decide), View.ld_unit_lit _ x9 (by decide), scales_eq, codes_eq]
  exact (congrArg (k0_pay9 (k0_pay4 x0) (k0_pay5 x0) x4 x9) (eq_ix2 y)).trans (C_at x0 x4 x9 (y 0) (y 1))

/-- The block of dt. -/
theorem dt_point (y : S24576x64.Idx) : out0_15 x0 x1 x2 x3 x4 x5 x6 x7 x8 x9 x10 y = projArr (N := 24576) (M := 64) (K := 4352) x0 x5 x10 y := by
  unfold out0_15
  rw [View.canon_cons_unit_lit _ _ _ (by decide), View.ld_unit_lit _ x5 (by decide), View.ld_unit_lit _ x10 (by decide), scales_eq, codes_eq]
  exact (congrArg (k0_pay1 (k0_pay4 x0) (k0_pay5 x0) x5 x10) (eq_ix2 y)).trans (dt_at x0 x5 x10 (y 0) (y 1))

/-- The block of codes. -/
theorem codes_point (y : S24576x4352.Idx) : out0_16 x0 x1 x2 x3 x4 x5 x6 x7 x8 x9 x10 y = codesArr (N := 24576) (K := 4352) x0 y := by
  unfold out0_16
  rw [View.canon_cons_unit_lit _ _ _ (by decide), codes_eq]
  exact (congrArg (k0_pay5 x0) (eq_ix2 y)).trans (codes_at x0 (y 0) (y 1))

/-- The block of scales. -/
theorem scale_point (y : S24576x1.Idx) : out0_17 x0 x1 x2 x3 x4 x5 x6 x7 x8 x9 x10 y = scaleArr (N := 24576) (K := 4352) x0 y := by
  unfold out0_17
  rw [View.canon_cons_unit_lit _ _ _ (by decide), scales_eq]
  have hy : y = (ix2 (y 0) (0 : Fin 1) : S24576x1.Idx) :=
    (eq_ix2 y).trans (congrArg (ix2 (y 0)) (Subsingleton.elim (α := Fin 1) _ _))
  exact (congrArg (k0_pay4 x0) hy).trans (scale_at x0 (y 0))

end Body

variable (m : (ℓ : Loc nD τ sig) → Buf (Elt Ideal) ℓ) (c : Dev nD)

/-- The point reads the whole tokens. -/
theorem in_0 (t : Fin cfg0.N) : iblk m c 0 t = V m c main_v0 := by
  have e : ∀ t : Fin cfg0.N, win0_0.index t = ![0, 0] := (by decide +kernel : ∀ t : Fin grid0.N, _)
  funext y
  blk_simp [iblk]
  refine congrArg (V m c main_v0) ?_
  blk_ext [e]

/-- The point reads the whole weight of z. -/
theorem in_1 (t : Fin cfg0.N) : iblk m c 1 t = V m c main_arg1 := by
  have e : ∀ t : Fin cfg0.N, win0_1.index t = ![0, 0] := (by decide +kernel : ∀ t : Fin grid0.N, _)
  funext y
  blk_simp [iblk]
  refine congrArg (V m c main_arg1) ?_
  blk_ext [e]

/-- The point reads the whole weight of x. -/
theorem in_2 (t : Fin cfg0.N) : iblk m c 2 t = V m c main_arg3 := by
  have e : ∀ t : Fin cfg0.N, win0_2.index t = ![0, 0] := (by decide +kernel : ∀ t : Fin grid0.N, _)
  funext y
  blk_simp [iblk]
  refine congrArg (V m c main_arg3) ?_
  blk_ext [e]

/-- The point reads the whole weight of B. -/
theorem in_3 (t : Fin cfg0.N) : iblk m c 3 t = V m c main_arg5 := by
  have e : ∀ t : Fin cfg0.N, win0_3.index t = ![0, 0] := (by decide +kernel : ∀ t : Fin grid0.N, _)
  funext y
  blk_simp [iblk]
  refine congrArg (V m c main_arg5) ?_
  blk_ext [e]

/-- The point reads the whole weight of C. -/
theorem in_4 (t : Fin cfg0.N) : iblk m c 4 t = V m c main_arg7 := by
  have e : ∀ t : Fin cfg0.N, win0_4.index t = ![0, 0] := (by decide +kernel : ∀ t : Fin grid0.N, _)
  funext y
  blk_simp [iblk]
  refine congrArg (V m c main_arg7) ?_
  blk_ext [e]

/-- The point reads the whole weight of dt. -/
theorem in_5 (t : Fin cfg0.N) : iblk m c 5 t = V m c main_arg9 := by
  have e : ∀ t : Fin cfg0.N, win0_5.index t = ![0, 0] := (by decide +kernel : ∀ t : Fin grid0.N, _)
  funext y
  blk_simp [iblk]
  refine congrArg (V m c main_arg9) ?_
  blk_ext [e]

/-- The point reads the whole scales of the weight of z. -/
theorem in_6 (t : Fin cfg0.N) : iblk m c 6 t = V m c main_v1 := by
  have e : ∀ t : Fin cfg0.N, win0_6.index t = ![0, 0] := (by decide +kernel : ∀ t : Fin grid0.N, _)
  funext y
  blk_simp [iblk]
  refine congrArg (V m c main_v1) ?_
  blk_ext [e]

/-- The point reads the whole scales of the weight of x. -/
theorem in_7 (t : Fin cfg0.N) : iblk m c 7 t = V m c main_v2 := by
  have e : ∀ t : Fin cfg0.N, win0_7.index t = ![0, 0] := (by decide +kernel : ∀ t : Fin grid0.N, _)
  funext y
  blk_simp [iblk]
  refine congrArg (V m c main_v2) ?_
  blk_ext [e]

/-- The point reads the whole scales of the weight of B. -/
theorem in_8 (t : Fin cfg0.N) : iblk m c 8 t = V m c main_v3 := by
  have e : ∀ t : Fin cfg0.N, win0_8.index t = ![0, 0] := (by decide +kernel : ∀ t : Fin grid0.N, _)
  funext y
  blk_simp [iblk]
  refine congrArg (V m c main_v3) ?_
  blk_ext [e]

/-- The point reads the whole scales of the weight of C. -/
theorem in_9 (t : Fin cfg0.N) : iblk m c 9 t = V m c main_v4 := by
  have e : ∀ t : Fin cfg0.N, win0_9.index t = ![0, 0] := (by decide +kernel : ∀ t : Fin grid0.N, _)
  funext y
  blk_simp [iblk]
  refine congrArg (V m c main_v4) ?_
  blk_ext [e]

/-- The point reads the whole scales of the weight of dt. -/
theorem in_10 (t : Fin cfg0.N) : iblk m c 10 t = V m c main_v5 := by
  have e : ∀ t : Fin cfg0.N, win0_10.index t = ![0, 0] := (by decide +kernel : ∀ t : Fin grid0.N, _)
  funext y
  blk_simp [iblk]
  refine congrArg (V m c main_v5) ?_
  blk_ext [e]

/-- The array of all of z. -/
theorem z_array : (dats m 0 c).arrAt 11 cfg0.N = projArr (N := 24576) (M := 4096) (K := 4352) (V m c main_v0) (V m c main_arg1) (V m c main_v1) := by
  have e : ∀ t : Fin cfg0.N, win0_11.index t = ![0, 0] := (by decide +kernel : ∀ t : Fin grid0.N, _)
  refine (dats m 0 c).arrAt_eq_of_covers 11 _ (by decide +kernel) fun t hf y => ?_
  blk_simp
  rw [after0_11, in_0, in_1, in_2, in_3, in_4, in_5, in_6, in_7, in_8, in_9, in_10]
  have hy : ((win0_11.blk t).view.emb y : S24576x4096.Idx) = y := by
    blk_ext [e]
  exact (z_point _ _ _ _ _ _ _ _ _ _ _ y).trans (congrArg (projArr (N := 24576) (M := 4096) (K := 4352) (V m c main_v0) (V m c main_arg1) (V m c main_v1)) hy).symm

/-- The array of all of x. -/
theorem x_array : (dats m 0 c).arrAt 12 cfg0.N = projArr (N := 24576) (M := 4096) (K := 4352) (V m c main_v0) (V m c main_arg3) (V m c main_v2) := by
  have e : ∀ t : Fin cfg0.N, win0_12.index t = ![0, 0] := (by decide +kernel : ∀ t : Fin grid0.N, _)
  refine (dats m 0 c).arrAt_eq_of_covers 12 _ (by decide +kernel) fun t hf y => ?_
  blk_simp
  rw [after0_12, in_0, in_1, in_2, in_3, in_4, in_5, in_6, in_7, in_8, in_9, in_10]
  have hy : ((win0_12.blk t).view.emb y : S24576x4096.Idx) = y := by
    blk_ext [e]
  exact (x_point _ _ _ _ _ _ _ _ _ _ _ y).trans (congrArg (projArr (N := 24576) (M := 4096) (K := 4352) (V m c main_v0) (V m c main_arg3) (V m c main_v2)) hy).symm

/-- The array of all of B. -/
theorem B_array : (dats m 0 c).arrAt 13 cfg0.N = projArr (N := 24576) (M := 128) (K := 4352) (V m c main_v0) (V m c main_arg5) (V m c main_v3) := by
  have e : ∀ t : Fin cfg0.N, win0_13.index t = ![0, 0] := (by decide +kernel : ∀ t : Fin grid0.N, _)
  refine (dats m 0 c).arrAt_eq_of_covers 13 _ (by decide +kernel) fun t hf y => ?_
  blk_simp
  rw [after0_13, in_0, in_1, in_2, in_3, in_4, in_5, in_6, in_7, in_8, in_9, in_10]
  have hy : ((win0_13.blk t).view.emb y : S24576x128.Idx) = y := by
    blk_ext [e]
  exact (B_point _ _ _ _ _ _ _ _ _ _ _ y).trans (congrArg (projArr (N := 24576) (M := 128) (K := 4352) (V m c main_v0) (V m c main_arg5) (V m c main_v3)) hy).symm

/-- The array of all of C. -/
theorem C_array : (dats m 0 c).arrAt 14 cfg0.N = projArr (N := 24576) (M := 128) (K := 4352) (V m c main_v0) (V m c main_arg7) (V m c main_v4) := by
  have e : ∀ t : Fin cfg0.N, win0_14.index t = ![0, 0] := (by decide +kernel : ∀ t : Fin grid0.N, _)
  refine (dats m 0 c).arrAt_eq_of_covers 14 _ (by decide +kernel) fun t hf y => ?_
  blk_simp
  rw [after0_14, in_0, in_1, in_2, in_3, in_4, in_5, in_6, in_7, in_8, in_9, in_10]
  have hy : ((win0_14.blk t).view.emb y : S24576x128.Idx) = y := by
    blk_ext [e]
  exact (C_point _ _ _ _ _ _ _ _ _ _ _ y).trans (congrArg (projArr (N := 24576) (M := 128) (K := 4352) (V m c main_v0) (V m c main_arg7) (V m c main_v4)) hy).symm

/-- The array of all of dt. -/
theorem dt_array : (dats m 0 c).arrAt 15 cfg0.N = projArr (N := 24576) (M := 64) (K := 4352) (V m c main_v0) (V m c main_arg9) (V m c main_v5) := by
  have e : ∀ t : Fin cfg0.N, win0_15.index t = ![0, 0] := (by decide +kernel : ∀ t : Fin grid0.N, _)
  refine (dats m 0 c).arrAt_eq_of_covers 15 _ (by decide +kernel) fun t hf y => ?_
  blk_simp
  rw [after0_15, in_0, in_1, in_2, in_3, in_4, in_5, in_6, in_7, in_8, in_9, in_10]
  have hy : ((win0_15.blk t).view.emb y : S24576x64.Idx) = y := by
    blk_ext [e]
  exact (dt_point _ _ _ _ _ _ _ _ _ _ _ y).trans (congrArg (projArr (N := 24576) (M := 64) (K := 4352) (V m c main_v0) (V m c main_arg9) (V m c main_v5)) hy).symm

/-- The array of all the codes. -/
theorem codes_array : (dats m 0 c).arrAt 16 cfg0.N = codesArr (N := 24576) (K := 4352) (V m c main_v0) := by
  have e : ∀ t : Fin cfg0.N, win0_16.index t = ![0, 0] := (by decide +kernel : ∀ t : Fin grid0.N, _)
  refine (dats m 0 c).arrAt_eq_of_covers 16 _ (by decide +kernel) fun t hf y => ?_
  blk_simp
  rw [after0_16, in_0, in_1, in_2, in_3, in_4, in_5, in_6, in_7, in_8, in_9, in_10]
  have hy : ((win0_16.blk t).view.emb y : S24576x4352.Idx) = y := by
    blk_ext [e]
  exact (codes_point _ _ _ _ _ _ _ _ _ _ _ y).trans (congrArg (codesArr (N := 24576) (K := 4352) (V m c main_v0)) hy).symm

/-- The array of all the scales. -/
theorem scale_array : (dats m 0 c).arrAt 17 cfg0.N = scaleArr (N := 24576) (K := 4352) (V m c main_v0) := by
  have e : ∀ t : Fin cfg0.N, win0_17.index t = ![0, 0] := (by decide +kernel : ∀ t : Fin grid0.N, _)
  refine (dats m 0 c).arrAt_eq_of_covers 17 _ (by decide +kernel) fun t hf y => ?_
  blk_simp
  rw [after0_17, in_0, in_1, in_2, in_3, in_4, in_5, in_6, in_7, in_8, in_9, in_10]
  have hy : ((win0_17.blk t).view.emb y : S24576x1.Idx) = y := by
    blk_ext [e]
  exact (scale_point _ _ _ _ _ _ _ _ _ _ _ y).trans (congrArg (scaleArr (N := 24576) (K := 4352) (V m c main_v0)) hy).symm

end Cert.InProj.RefArrays

end
-- ==== Proof.Agree.lean ====
module

public import proofs.«01_k».proof.Proof.Host
public import proofs.«01_k».proof.Proof.KerArrays
public import proofs.«01_k».proof.Proof.RefArrays

/-! # The kernel's arrays are the reference's

From equal arguments, and with every token bounded, each of the seven arrays the kernel leaves is the one the reference
leaves: both are the plain functions of `Spec`, of the same tokens, weights and scales. -/

@[expose] public section

set_option maxRecDepth 16384

noncomputable section

namespace Cert.InProj.Agree

open Cert.InProj Cert.InProj.KerArrays Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- Equal tokens, weights and scales have equal projections. -/
theorem projArr_congr {N M K : ℕ} {U U' : (⟨2, ![N, K]⟩ : Shape).Idx → EReal} {W W' : (⟨2, ![M, K]⟩ : Shape).Idx → EReal}
    {s s' : (⟨2, ![1, M]⟩ : Shape).Idx → EReal} (hU : U = U') (hW : W = W') (hs : s = s') : projArr U W s = projArr U' W' s' := by
  rw [hU, hW, hs]

/-- An argument of the kernel. -/
abbrev ker (b : Ref KernelIdeal.sig .tc) := m ((c.tc : Thread KernelIdeal.nD KernelIdeal.τ).loc b)

/-- An argument of the reference. -/
abbrev ref (b : Ref ReferenceIdeal.sig .tc) := m' ((c.tc : Thread ReferenceIdeal.nD ReferenceIdeal.τ).loc b)

/-- Both find the same tokens. -/
theorem tokens_eq (h : ref m' c ReferenceIdeal.main_arg0 = ker m c KernelIdeal.main_arg0) :
    (ReferenceIdeal.Gen.V m' c ReferenceIdeal.main_v0 : KernelIdeal.S24576x4352.Idx → EReal) = tokens m c :=
  (Host.Reference.main_v0_eq m' c).trans ((congrArg (fun a : KernelIdeal.S4x6144x4352.Idx → EReal =>
    shapeCast KernelIdeal.S24576x4352 a KernelIdeal.Gen.facts.shapeCasts_S4x6144x4352_S24576x4352) h).trans (Host.Kernel.main_v5_eq m c).symm)

/-- The projection z. -/
theorem z_eq (hs : AllSmall m c) (h : ref m' c ReferenceIdeal.main_arg0 = ker m c KernelIdeal.main_arg0)
    (hw : ref m' c ReferenceIdeal.main_arg1 = ker m c KernelIdeal.main_arg1)
    (hc : ref m' c ReferenceIdeal.main_arg2 = ker m c KernelIdeal.main_arg2) :
    ((ReferenceIdeal.Gen.dats m' 0 c).arrAt 11 ReferenceIdeal.cfg0.N : KernelIdeal.S24576x4096.Idx → EReal)
      = (KernelIdeal.Gen.dats m 0 c).arrAt 11 KernelIdeal.cfg0.N := by
  have ew : (ReferenceIdeal.Gen.V m' c ReferenceIdeal.main_arg1 : KernelIdeal.S4096x4352.Idx → EReal) = KernelIdeal.Gen.V m c KernelIdeal.main_arg1 :=
    (ReferenceIdeal.Gen.V_main_arg1 m' c).trans (Eq.trans hw (KernelIdeal.Gen.V_main_arg1 m c).symm)
  have es : (ReferenceIdeal.Gen.V m' c ReferenceIdeal.main_v1 : KernelIdeal.S1x4096.Idx → EReal) = KernelIdeal.Gen.V m c KernelIdeal.main_v0 :=
    (Host.Reference.main_v1_eq m' c).trans ((congrArg (fun a : KernelIdeal.S4096.Idx → EReal =>
      shapeCast KernelIdeal.S1x4096 a KernelIdeal.Gen.facts.shapeCasts_S4096_S1x4096) hc).trans (Host.Kernel.main_v0_eq m c).symm)
  exact (RefArrays.z_array m' c).trans ((projArr_congr (tokens_eq m m' c h) ew es).trans (KerArrays.z_array m c hs).symm)

/-- The projection x. -/
theorem x_eq (hs : AllSmall m c) (h : ref m' c ReferenceIdeal.main_arg0 = ker m c KernelIdeal.main_arg0)
    (hw : ref m' c ReferenceIdeal.main_arg3 = ker m c KernelIdeal.main_arg3)
    (hc : ref m' c ReferenceIdeal.main_arg4 = ker m c KernelIdeal.main_arg4) :
    ((ReferenceIdeal.Gen.dats m' 0 c).arrAt 12 ReferenceIdeal.cfg0.N : KernelIdeal.S24576x4096.Idx → EReal)
      = (KernelIdeal.Gen.dats m 0 c).arrAt 12 KernelIdeal.cfg0.N := by
  have ew : (ReferenceIdeal.Gen.V m' c ReferenceIdeal.main_arg3 : KernelIdeal.S4096x4352.Idx → EReal) = KernelIdeal.Gen.V m c KernelIdeal.main_arg3 :=
    (ReferenceIdeal.Gen.V_main_arg3 m' c).trans (Eq.trans hw (KernelIdeal.Gen.V_main_arg3 m c).symm)
  have es : (ReferenceIdeal.Gen.V m' c ReferenceIdeal.main_v2 : KernelIdeal.S1x4096.Idx → EReal) = KernelIdeal.Gen.V m c KernelIdeal.main_v1 :=
    (Host.Reference.main_v2_eq m' c).trans ((congrArg (fun a : KernelIdeal.S4096.Idx → EReal =>
      shapeCast KernelIdeal.S1x4096 a KernelIdeal.Gen.facts.shapeCasts_S4096_S1x4096) hc).trans (Host.Kernel.main_v1_eq m c).symm)
  exact (RefArrays.x_array m' c).trans ((projArr_congr (tokens_eq m m' c h) ew es).trans (KerArrays.x_array m c hs).symm)

/-- The projection B. -/
theorem B_eq (hs : AllSmall m c) (h : ref m' c ReferenceIdeal.main_arg0 = ker m c KernelIdeal.main_arg0)
    (hw : ref m' c ReferenceIdeal.main_arg5 = ker m c KernelIdeal.main_arg5)
    (hc : ref m' c ReferenceIdeal.main_arg6 = ker m c KernelIdeal.main_arg6) :
    ((ReferenceIdeal.Gen.dats m' 0 c).arrAt 13 ReferenceIdeal.cfg0.N : KernelIdeal.S24576x128.Idx → EReal)
      = (KernelIdeal.Gen.dats m 0 c).arrAt 13 KernelIdeal.cfg0.N := by
  have ew : (ReferenceIdeal.Gen.V m' c ReferenceIdeal.main_arg5 : KernelIdeal.S128x4352.Idx → EReal) = KernelIdeal.Gen.V m c KernelIdeal.main_arg5 :=
    (ReferenceIdeal.Gen.V_main_arg5 m' c).trans (Eq.trans hw (KernelIdeal.Gen.V_main_arg5 m c).symm)
  have es : (ReferenceIdeal.Gen.V m' c ReferenceIdeal.main_v3 : KernelIdeal.S1x128.Idx → EReal) = KernelIdeal.Gen.V m c KernelIdeal.main_v2 :=
    (Host.Reference.main_v3_eq m' c).trans ((congrArg (fun a : KernelIdeal.S128.Idx → EReal =>
      shapeCast KernelIdeal.S1x128 a KernelIdeal.Gen.facts.shapeCasts_S128_S1x128) hc).trans (Host.Kernel.main_v2_eq m c).symm)
  exact (RefArrays.B_array m' c).trans ((projArr_congr (tokens_eq m m' c h) ew es).trans (KerArrays.B_array m c hs).symm)

/-- The projection C. -/
theorem C_eq (hs : AllSmall m c) (h : ref m' c ReferenceIdeal.main_arg0 = ker m c KernelIdeal.main_arg0)
    (hw : ref m' c ReferenceIdeal.main_arg7 = ker m c KernelIdeal.main_arg7)
    (hc : ref m' c ReferenceIdeal.main_arg8 = ker m c KernelIdeal.main_arg8) :
    ((ReferenceIdeal.Gen.dats m' 0 c).arrAt 14 ReferenceIdeal.cfg0.N : KernelIdeal.S24576x128.Idx → EReal)
      = (KernelIdeal.Gen.dats m 0 c).arrAt 14 KernelIdeal.cfg0.N := by
  have ew : (ReferenceIdeal.Gen.V m' c ReferenceIdeal.main_arg7 : KernelIdeal.S128x4352.Idx → EReal) = KernelIdeal.Gen.V m c KernelIdeal.main_arg7 :=
    (ReferenceIdeal.Gen.V_main_arg7 m' c).trans (Eq.trans hw (KernelIdeal.Gen.V_main_arg7 m c).symm)
  have es : (ReferenceIdeal.Gen.V m' c ReferenceIdeal.main_v4 : KernelIdeal.S1x128.Idx → EReal) = KernelIdeal.Gen.V m c KernelIdeal.main_v3 :=
    (Host.Reference.main_v4_eq m' c).trans ((congrArg (fun a : KernelIdeal.S128.Idx → EReal =>
      shapeCast KernelIdeal.S1x128 a KernelIdeal.Gen.facts.shapeCasts_S128_S1x128) hc).trans (Host.Kernel.main_v3_eq m c).symm)
  exact (RefArrays.C_array m' c).trans ((projArr_congr (tokens_eq m m' c h) ew es).trans (KerArrays.C_array m c hs).symm)

/-- The projection dt. -/
theorem dt_eq (hs : AllSmall m c) (h : ref m' c ReferenceIdeal.main_arg0 = ker m c KernelIdeal.main_arg0)
    (hw : ref m' c ReferenceIdeal.main_arg9 = ker m c KernelIdeal.main_arg9)
    (hc : ref m' c ReferenceIdeal.main_arg10 = ker m c KernelIdeal.main_arg10) :
    ((ReferenceIdeal.Gen.dats m' 0 c).arrAt 15 ReferenceIdeal.cfg0.N : KernelIdeal.S24576x64.Idx → EReal)
      = (KernelIdeal.Gen.dats m 0 c).arrAt 15 KernelIdeal.cfg0.N := by
  have ew : (ReferenceIdeal.Gen.V m' c ReferenceIdeal.main_arg9 : KernelIdeal.S64x4352.Idx → EReal) = KernelIdeal.Gen.V m c KernelIdeal.main_arg9 :=
    (ReferenceIdeal.Gen.V_main_arg9 m' c).trans (Eq.trans hw (KernelIdeal.Gen.V_main_arg9 m c).symm)
  have es : (ReferenceIdeal.Gen.V m' c ReferenceIdeal.main_v5 : KernelIdeal.S1x64.Idx → EReal) = KernelIdeal.Gen.V m c KernelIdeal.main_v4 :=
    (Host.Reference.main_v5_eq m' c).trans ((congrArg (fun a : KernelIdeal.S64.Idx → EReal =>
      shapeCast KernelIdeal.S1x64 a KernelIdeal.Gen.facts.shapeCasts_S64_S1x64) hc).trans (Host.Kernel.main_v4_eq m c).symm)
  exact (RefArrays.dt_array m' c).trans ((projArr_congr (tokens_eq m m' c h) ew es).trans (KerArrays.dt_array m c hs).symm)

/-- The codes. -/
theorem codes_eq (hs : AllSmall m c) (h : ref m' c ReferenceIdeal.main_arg0 = ker m c KernelIdeal.main_arg0) :
    ((ReferenceIdeal.Gen.dats m' 0 c).arrAt 16 ReferenceIdeal.cfg0.N : KernelIdeal.S24576x4352.Idx → EReal)
      = (KernelIdeal.Gen.dats m 0 c).arrAt 16 KernelIdeal.cfg0.N :=
  (RefArrays.codes_array m' c).trans ((congrArg (codesArr (N := 24576) (K := 4352)) (tokens_eq m m' c h)).trans (KerArrays.codes_array m c hs).symm)

/-- The scales. -/
theorem scale_eq (hs : AllSmall m c) (h : ref m' c ReferenceIdeal.main_arg0 = ker m c KernelIdeal.main_arg0) :
    ((ReferenceIdeal.Gen.dats m' 0 c).arrAt 17 ReferenceIdeal.cfg0.N : KernelIdeal.S24576x1.Idx → EReal)
      = (KernelIdeal.Gen.dats m 0 c).arrAt 17 KernelIdeal.cfg0.N :=
  (RefArrays.scale_array m' c).trans ((congrArg (scaleArr (N := 24576) (K := 4352)) (tokens_eq m m' c h)).trans (KerArrays.scale_array m c hs).symm)

end Cert.InProj.Agree

end
-- ==== Proof.Precondition.lean ====
module

public import proofs.«01_k».proof.Defs
public import proofs.«01_k».proof.Proof.Host
public import proofs.«01_k».proof.Proof.KerArrays

/-! # The precondition: every token is a finite bf16 number

Read at the extended reals, `finite` bounds the magnitude of every token by the greatest finite bf16 number. -/

@[expose] public section

set_option maxRecDepth 16384

noncomputable section

namespace Cert.InProj.Precondition

open Cert.KernelIdeal Cert.KernelIdeal.Gen Cert.InProj Cert.InProj.KerBody Cert.InProj.KerArrays Idealize.ShloMosaic Idealize.ShloMosaic.TcCoe Idealize.SL.Sem

/-- The side conditions of the printed predicate. -/
theorem facts : Cert.Pre_finite.Facts where
  bitsLt_bf16_f32 := by decide
  bcast_S_S4x6144x4352 := by decide

/-- The greatest finite bf16 number. -/
theorem greatest_eq : Ideal.ofBits .f32 0x7F7F0000#32 = ((255 * (2 : ℝ) ^ (120 : ℤ) : ℝ) : EReal) := by
  simp [Ideal.ofBits, Ideal.ieee, -EReal.coe_mul]
  norm_num

/-- A comparison that is one says that its operands are ordered. -/
theorem le_of_test {a b : EReal} (h : BitVec.ofBool (decide (a ≤ b)) = 1#1) : a ≤ b := by
  by_contra hn
  rw [decide_eq_false hn] at h
  exact absurd h (by decide)

variable (m : (ℓ : Loc nD τ sig) → Buf (Elt Ideal) ℓ) (c : Dev nD)

/-- The tokens as launched. -/
abbrev launched : S4x6144x4352.Idx → EReal := m ((c : Thread nD τ).loc main_arg0)

/-- Every token, as launched, is bounded. -/
theorem bounded [hPre : Cert.Pre_finite.Facts] (h : Cert.Pre_KernelIdeal_finite m) (i : S4x6144x4352.Idx) :
    max (launched m c i) (-(launched m c i)) ≤ ((255 * (2 : ℝ) ^ (120 : ℤ) : ℝ) : EReal) := by
  rw [← greatest_eq]
  exact le_of_test (congrFun (h c) i)

/-- So is every token the kernel finds, whose layout the host has flattened. -/
theorem allSmall [hPre : Cert.Pre_finite.Facts] (h : Cert.Pre_KernelIdeal_finite m) : AllSmall m c := by
  intro q k
  have e : tokens m c (ix2 q k) = shapeCast S24576x4352 (launched m c) shapeCasts_S4x6144x4352_S24576x4352 (ix2 q k) :=
    congrFun (Host.Kernel.main_v5_eq m c) (ix2 q k)
  show max (tokens m c (ix2 q k)) (-(tokens m c (ix2 q k))) ≤ _
  rw [e]
  exact bounded m c h _

end Cert.InProj.Precondition

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Agree
public import proofs.«01_k».proof.Proof.Precondition

/-! # The claim

The kernel and the reference terminate and leave their arguments alone (the generated frames); at the extended reals, from
equal arguments whose tokens are finite bf16 numbers, their seven results are equal (`Agree`). -/

@[expose] public section

set_option maxRecDepth 16384

namespace Cert.Proof

open Cert.InProj Idealize.ShloMosaic Idealize.ShloMosaic.TcCoe Idealize.SL.Sem

/-- The seven results are equal. -/
theorem equal_results : algebraic_KernelIdeal_ReferenceIdeal_pre_finite (hKernelIdeal := Cert.KernelIdeal.Gen.facts)
    (hReferenceIdeal := Cert.ReferenceIdeal.Gen.facts) (hPre_finite := Precondition.facts) := by
  intro m g m' g' hpre hargs
  refine ⟨fun c => (KernelIdeal.Gen.dats m 0 c).arrAt 11 KernelIdeal.cfg0.N, fun c => (KernelIdeal.Gen.dats m 0 c).arrAt 12 KernelIdeal.cfg0.N,
    fun c => (KernelIdeal.Gen.dats m 0 c).arrAt 13 KernelIdeal.cfg0.N, fun c => (KernelIdeal.Gen.dats m 0 c).arrAt 14 KernelIdeal.cfg0.N,
    fun c => (KernelIdeal.Gen.dats m 0 c).arrAt 15 KernelIdeal.cfg0.N, fun c => (KernelIdeal.Gen.dats m 0 c).arrAt 16 KernelIdeal.cfg0.N,
    fun c => (KernelIdeal.Gen.dats m 0 c).arrAt 17 KernelIdeal.cfg0.N, KernelIdeal.Value.run_blocks m g, ?_⟩
  refine (θ_run _ _ _).mono (fun r h c => ?_) (ReferenceIdeal.Value.run_blocks m' g')
  obtain ⟨a0, a1, a2, a3, a4, a5, a6, a7, a8, a9, a10⟩ := hargs c
  obtain ⟨r0, r1, r2, r3, r4, r5, r6, rest⟩ := h c
  have hs := @Precondition.allSmall m c Precondition.facts hpre
  exact ⟨r0.trans (Agree.z_eq m m' c hs a0 a1 a2), r1.trans (Agree.x_eq m m' c hs a0 a3 a4), r2.trans (Agree.B_eq m m' c hs a0 a5 a6),
    r3.trans (Agree.C_eq m m' c hs a0 a7 a8), r4.trans (Agree.dt_eq m m' c hs a0 a9 a10), r5.trans (Agree.codes_eq m m' c hs a0),
    r6.trans (Agree.scale_eq m m' c hs a0), rest⟩

/-- Everything the certificate claims. -/
theorem claim : Cert.Claim :=
  ⟨Cert.Kernel.Gen.facts, Cert.KernelIdeal.Gen.facts, Cert.ReferenceIdeal.Gen.facts, Precondition.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, equal_results⟩

end Cert.Proof
